-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x2 : Shape := ⟨2, ![4096, 2]⟩
abbrev S4096x200x3 : Shape := ⟨3, ![4096, 200, 3]⟩
abbrev S4096x1x3 : Shape := ⟨3, ![4096, 1, 3]⟩
abbrev S12x8 : Shape := ⟨2, ![12, 8]⟩
abbrev S101100x8 : Shape := ⟨2, ![101100, 8]⟩
abbrev S20x8 : Shape := ⟨2, ![20, 8]⟩
abbrev S96x36 : Shape := ⟨2, ![96, 36]⟩
abbrev S36 : Shape := ⟨1, ![36]⟩
abbrev S36x1 : Shape := ⟨2, ![36, 1]⟩
abbrev S1 : Shape := ⟨1, ![1]⟩
abbrev S80x200 : Shape := ⟨2, ![80, 200]⟩
abbrev S200 : Shape := ⟨1, ![200]⟩
abbrev S200x80 : Shape := ⟨2, ![200, 80]⟩
abbrev S80 : Shape := ⟨1, ![80]⟩
abbrev S80x2 : Shape := ⟨2, ![80, 2]⟩
abbrev S2 : Shape := ⟨1, ![2]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S4096x200x3 : S_.BroadcastsInDim S4096x200x3 (![] : Fin 0 → Fin S4096x200x3.rank)
  reducesTo_S4096x200x3_S_d0_1_2 : S4096x200x3.ReducesTo [0, 1, 2] S_
  bcast_S_S4096x1x3 : S_.BroadcastsInDim S4096x1x3 (![] : Fin 0 → Fin S4096x1x3.rank)
  reducesTo_S4096x1x3_S_d0_1_2 : S4096x1x3.ReducesTo [0, 1, 2] S_
  bcast_S_S12x8 : S_.BroadcastsInDim S12x8 (![] : Fin 0 → Fin S12x8.rank)
  reducesTo_S12x8_S_d0_1 : S12x8.ReducesTo [0, 1] S_
  bcast_S_S101100x8 : S_.BroadcastsInDim S101100x8 (![] : Fin 0 → Fin S101100x8.rank)
  reducesTo_S101100x8_S_d0_1 : S101100x8.ReducesTo [0, 1] S_
  bcast_S_S20x8 : S_.BroadcastsInDim S20x8 (![] : Fin 0 → Fin S20x8.rank)
  reducesTo_S20x8_S_d0_1 : S20x8.ReducesTo [0, 1] S_
  bcast_S_S96x36 : S_.BroadcastsInDim S96x36 (![] : Fin 0 → Fin S96x36.rank)
  reducesTo_S96x36_S_d0_1 : S96x36.ReducesTo [0, 1] S_
  bcast_S_S36 : S_.BroadcastsInDim S36 (![] : Fin 0 → Fin S36.rank)
  reducesTo_S36_S_d0 : S36.ReducesTo [0] S_
  bcast_S_S36x1 : S_.BroadcastsInDim S36x1 (![] : Fin 0 → Fin S36x1.rank)
  reducesTo_S36x1_S_d0_1 : S36x1.ReducesTo [0, 1] S_
  bcast_S_S1 : S_.BroadcastsInDim S1 (![] : Fin 0 → Fin S1.rank)
  reducesTo_S1_S_d0 : S1.ReducesTo [0] S_
  bcast_S_S80x200 : S_.BroadcastsInDim S80x200 (![] : Fin 0 → Fin S80x200.rank)
  reducesTo_S80x200_S_d0_1 : S80x200.ReducesTo [0, 1] S_
  bcast_S_S200 : S_.BroadcastsInDim S200 (![] : Fin 0 → Fin S200.rank)
  reducesTo_S200_S_d0 : S200.ReducesTo [0] S_
  bcast_S_S200x80 : S_.BroadcastsInDim S200x80 (![] : Fin 0 → Fin S200x80.rank)
  reducesTo_S200x80_S_d0_1 : S200x80.ReducesTo [0, 1] S_
  bcast_S_S80 : S_.BroadcastsInDim S80 (![] : Fin 0 → Fin S80.rank)
  reducesTo_S80_S_d0 : S80.ReducesTo [0] S_

variable [Facts]

def fn_part5 {F : FTy → Type} [FloatOps F] (main_arg16 : FVec F S80 .f32) (main_arg17 : FVec F S80 .f32) (main_v81 : IVec S_ 1) (main_v84 : IVec S200x80 1) : IVec S_ 1 :=
  let main_c_33 : IVec S_ 1 := constantI S_ 1 1#1
  let main_v85 : IVec S_ 1 := (fun x v => Host.reduce IntOp.andi x v reducesTo_S200x80_S_d0_1 h_S_) main_v84 main_c_33
  let main_v86 : IVec S_ 1 := andi main_v81 main_v85
  let main_v87 : FVec F S80 .f32 := Host.absf main_arg16
  let main_cst_34 : FVec F S_ .f32 := constant S_ .f32 0x7F800000#32
  let main_v88 : FVec F S80 .f32 := broadcastInDim S80 ![] bcast_S_S80 main_cst_34
  let main_v89 : IVec S80 1 := cmpf .olt main_v87 main_v88
  let main_c_35 : IVec S_ 1 := constantI S_ 1 1#1
  let main_v90 : IVec S_ 1 := (fun x v => Host.reduce IntOp.andi x v reducesTo_S80_S_d0 h_S_) main_v89 main_c_35
  let main_v91 : IVec S_ 1 := andi main_v86 main_v90
  let main_v92 : FVec F S80 .f32 := Host.absf main_arg17
  let main_cst_36 : FVec F S_ .f32 := constant S_ .f32 0x7F800000#32
  let main_v93 : FVec F S80 .f32 := broadcastInDim S80 ![] bcast_S_S80 main_cst_36
  let main_v94 : IVec S80 1 := cmpf .olt main_v92 main_v93
  let main_c_37 : IVec S_ 1 := constantI S_ 1 1#1
  let main_v95 : IVec S_ 1 := (fun x v => Host.reduce IntOp.andi x v reducesTo_S80_S_d0 h_S_) main_v94 main_c_37
  let main_v96 : IVec S_ 1 := andi main_v91 main_v95
  main_v96

def fn_part4 {F : FTy → Type} [FloatOps F] (main_arg13 : FVec F S200 .f32) (main_arg14 : FVec F S200 .f32) (main_arg15 : FVec F S200x80 .f32) (main_arg16 : FVec F S80 .f32) (main_arg17 : FVec F S80 .f32) (main_v66 : IVec S_ 1) (main_v67 : FVec F S80x200 .f32) : IVec S_ 1 :=
  let main_cst_26 : FVec F S_ .f32 := constant S_ .f32 0x7F800000#32
  let main_v68 : FVec F S80x200 .f32 := broadcastInDim S80x200 ![] bcast_S_S80x200 main_cst_26
  let main_v69 : IVec S80x200 1 := cmpf .olt main_v67 main_v68
  let main_c_27 : IVec S_ 1 := constantI S_ 1 1#1
  let main_v70 : IVec S_ 1 := (fun x v => Host.reduce IntOp.andi x v reducesTo_S80x200_S_d0_1 h_S_) main_v69 main_c_27
  let main_v71 : IVec S_ 1 := andi main_v66 main_v70
  let main_v72 : FVec F S200 .f32 := Host.absf main_arg13
  let main_cst_28 : FVec F S_ .f32 := constant S_ .f32 0x7F800000#32
  let main_v73 : FVec F S200 .f32 := broadcastInDim S200 ![] bcast_S_S200 main_cst_28
  let main_v74 : IVec S200 1 := cmpf .olt main_v72 main_v73
  let main_c_29 : IVec S_ 1 := constantI S_ 1 1#1
  let main_v75 : IVec S_ 1 := (fun x v => Host.reduce IntOp.andi x v reducesTo_S200_S_d0 h_S_) main_v74 main_c_29
  let main_v76 : IVec S_ 1 := andi main_v71 main_v75
  let main_v77 : FVec F S200 .f32 := Host.absf main_arg14
  let main_cst_30 : FVec F S_ .f32 := constant S_ .f32 0x7F800000#32
  let main_v78 : FVec F S200 .f32 := broadcastInDim S200 ![] bcast_S_S200 main_cst_30
  let main_v79 : IVec S200 1 := cmpf .olt main_v77 main_v78
  let main_c_31 : IVec S_ 1 := constantI S_ 1 1#1
  let main_v80 : IVec S_ 1 := (fun x v => Host.reduce IntOp.andi x v reducesTo_S200_S_d0 h_S_) main_v79 main_c_31
  let main_v81 : IVec S_ 1 := andi main_v76 main_v80
  let main_v82 : FVec F S200x80 .f32 := Host.absf main_arg15
  let main_cst_32 : FVec F S_ .f32 := constant S_ .f32 0x7F800000#32
  let main_v83 : FVec F S200x80 .f32 := broadcastInDim S200x80 ![] bcast_S_S200x80 main_cst_32
  let main_v84 : IVec S200x80 1 := cmpf .olt main_v82 main_v83
  fn_part5 (F := F) main_arg16 main_arg17 main_v81 main_v84

def fn_part3 {F : FTy → Type} [FloatOps F] (main_arg9 : FVec F S36 .f32) (main_arg10 : FVec F S36x1 .f32) (main_arg11 : FVec F S1 .f32) (main_arg12 : FVec F S80x200 .f32) (main_arg13 : FVec F S200 .f32) (main_arg14 : FVec F S200 .f32) (main_arg15 : FVec F S200x80 .f32) (main_arg16 : FVec F S80 .f32) (main_arg17 : FVec F S80 .f32) (main_v46 : IVec S_ 1) (main_v49 : IVec S36 1) (main_c_19 : IVec S_ 1) : IVec S_ 1 :=
  let main_v50 : IVec S_ 1 := (fun x v => Host.reduce IntOp.andi x v reducesTo_S36_S_d0 h_S_) main_v49 main_c_19
  let main_v51 : IVec S_ 1 := andi main_v46 main_v50
  let main_v52 : FVec F S36 .f32 := Host.absf main_arg9
  let main_cst_20 : FVec F S_ .f32 := constant S_ .f32 0x7F800000#32
  let main_v53 : FVec F S36 .f32 := broadcastInDim S36 ![] bcast_S_S36 main_cst_20
  let main_v54 : IVec S36 1 := cmpf .olt main_v52 main_v53
  let main_c_21 : IVec S_ 1 := constantI S_ 1 1#1
  let main_v55 : IVec S_ 1 := (fun x v => Host.reduce IntOp.andi x v reducesTo_S36_S_d0 h_S_) main_v54 main_c_21
  let main_v56 : IVec S_ 1 := andi main_v51 main_v55
  let main_v57 : FVec F S36x1 .f32 := Host.absf main_arg10
  let main_cst_22 : FVec F S_ .f32 := constant S_ .f32 0x7F800000#32
  let main_v58 : FVec F S36x1 .f32 := broadcastInDim S36x1 ![] bcast_S_S36x1 main_cst_22
  let main_v59 : IVec S36x1 1 := cmpf .olt main_v57 main_v58
  let main_c_23 : IVec S_ 1 := constantI S_ 1 1#1
  let main_v60 : IVec S_ 1 := (fun x v => Host.reduce IntOp.andi x v reducesTo_S36x1_S_d0_1 h_S_) main_v59 main_c_23
  let main_v61 : IVec S_ 1 := andi main_v56 main_v60
  let main_v62 : FVec F S1 .f32 := Host.absf main_arg11
  let main_cst_24 : FVec F S_ .f32 := constant S_ .f32 0x7F800000#32
  let main_v63 : FVec F S1 .f32 := broadcastInDim S1 ![] bcast_S_S1 main_cst_24
  let main_v64 : IVec S1 1 := cmpf .olt main_v62 main_v63
  let main_c_25 : IVec S_ 1 := constantI S_ 1 1#1
  let main_v65 : IVec S_ 1 := (fun x v => Host.reduce IntOp.andi x v reducesTo_S1_S_d0 h_S_) main_v64 main_c_25
  let main_v66 : IVec S_ 1 := andi main_v61 main_v65
  let main_v67 : FVec F S80x200 .f32 := Host.absf main_arg12
  fn_part4 (F := F) main_arg13 main_arg14 main_arg15 main_arg16 main_arg17 main_v66 main_v67

def fn_part2 {F : FTy → Type} [FloatOps F] (main_arg6 : FVec F S20x8 .f32) (main_arg7 : FVec F S96x36 .f32) (main_arg8 : FVec F S36 .f32) (main_arg9 : FVec F S36 .f32) (main_arg10 : FVec F S36x1 .f32) (main_arg11 : FVec F S1 .f32) (main_arg12 : FVec F S80x200 .f32) (main_arg13 : FVec F S200 .f32) (main_arg14 : FVec F S200 .f32) (main_arg15 : FVec F S200x80 .f32) (main_arg16 : FVec F S80 .f32) (main_arg17 : FVec F S80 .f32) (main_v31 : IVec S_ 1) (main_v32 : FVec F S101100x8 .f32) (main_cst_12 : FVec F S_ .f32) : IVec S_ 1 :=
  let main_v33 : FVec F S101100x8 .f32 := broadcastInDim S101100x8 ![] bcast_S_S101100x8 main_cst_12
  let main_v34 : IVec S101100x8 1 := cmpf .olt main_v32 main_v33
  let main_c_13 : IVec S_ 1 := constantI S_ 1 1#1
  let main_v35 : IVec S_ 1 := (fun x v => Host.reduce IntOp.andi x v reducesTo_S101100x8_S_d0_1 h_S_) main_v34 main_c_13
  let main_v36 : IVec S_ 1 := andi main_v31 main_v35
  let main_v37 : FVec F S20x8 .f32 := Host.absf main_arg6
  let main_cst_14 : FVec F S_ .f32 := constant S_ .f32 0x7F800000#32
  let main_v38 : FVec F S20x8 .f32 := broadcastInDim S20x8 ![] bcast_S_S20x8 main_cst_14
  let main_v39 : IVec S20x8 1 := cmpf .olt main_v37 main_v38
  let main_c_15 : IVec S_ 1 := constantI S_ 1 1#1
  let main_v40 : IVec S_ 1 := (fun x v => Host.reduce IntOp.andi x v reducesTo_S20x8_S_d0_1 h_S_) main_v39 main_c_15
  let main_v41 : IVec S_ 1 := andi main_v36 main_v40
  let main_v42 : FVec F S96x36 .f32 := Host.absf main_arg7
  let main_cst_16 : FVec F S_ .f32 := constant S_ .f32 0x7F800000#32
  let main_v43 : FVec F S96x36 .f32 := broadcastInDim S96x36 ![] bcast_S_S96x36 main_cst_16
  let main_v44 : IVec S96x36 1 := cmpf .olt main_v42 main_v43
  let main_c_17 : IVec S_ 1 := constantI S_ 1 1#1
  let main_v45 : IVec S_ 1 := (fun x v => Host.reduce IntOp.andi x v reducesTo_S96x36_S_d0_1 h_S_) main_v44 main_c_17
  let main_v46 : IVec S_ 1 := andi main_v41 main_v45
  let main_v47 : FVec F S36 .f32 := Host.absf main_arg8
  let main_cst_18 : FVec F S_ .f32 := constant S_ .f32 0x7F800000#32
  let main_v48 : FVec F S36 .f32 := broadcastInDim S36 ![] bcast_S_S36 main_cst_18
  let main_v49 : IVec S36 1 := cmpf .olt main_v47 main_v48
  let main_c_19 : IVec S_ 1 := constantI S_ 1 1#1
  fn_part3 (F := F) main_arg9 main_arg10 main_arg11 main_arg12 main_arg13 main_arg14 main_arg15 main_arg16 main_arg17 main_v46 main_v49 main_c_19

def fn_part1 {F : FTy → Type} [FloatOps F] (main_arg2 : IVec S4096x1x3 32) (main_arg3 : IVec S4096x2 32) (main_arg4 : FVec F S12x8 .f32) (main_arg5 : FVec F S101100x8 .f32) (main_arg6 : FVec F S20x8 .f32) (main_arg7 : FVec F S96x36 .f32) (main_arg8 : FVec F S36 .f32) (main_arg9 : FVec F S36 .f32) (main_arg10 : FVec F S36x1 .f32) (main_arg11 : FVec F S1 .f32) (main_arg12 : FVec F S80x200 .f32) (main_arg13 : FVec F S200 .f32) (main_arg14 : FVec F S200 .f32) (main_arg15 : FVec F S200x80 .f32) (main_arg16 : FVec F S80 .f32) (main_arg17 : FVec F S80 .f32) (main_v12 : IVec S_ 1) (main_v14 : IVec S4096x1x3 1) (main_v15 : IVec S4096x1x3 32) : IVec S_ 1 :=
  let main_v16 : IVec S4096x1x3 1 := cmpi .slt main_arg2 main_v15
  let main_v17 : IVec S4096x1x3 1 := andi main_v14 main_v16
  let main_c_7 : IVec S_ 1 := constantI S_ 1 1#1
  let main_v18 : IVec S_ 1 := (fun x v => Host.reduce IntOp.andi x v reducesTo_S4096x1x3_S_d0_1_2 h_S_) main_v17 main_c_7
  let main_v19 : IVec S_ 1 := andi main_v12 main_v18
  let main_c_8 : IVec S_ 32 := constantI S_ 32 0#32
  let main_v20 : IVec S4096x2 32 := broadcastInDim S4096x2 ![] bcast_S_S4096x2 main_c_8
  let main_v21 : IVec S4096x2 1 := cmpi .sge main_arg3 main_v20
  let main_c_9 : IVec S_ 32 := constantI S_ 32 10#32
  let main_v22 : IVec S4096x2 32 := broadcastInDim S4096x2 ![] bcast_S_S4096x2 main_c_9
  let main_v23 : IVec S4096x2 1 := cmpi .slt main_arg3 main_v22
  let main_v24 : IVec S4096x2 1 := andi main_v21 main_v23
  let main_c_10 : IVec S_ 1 := constantI S_ 1 1#1
  let main_v25 : IVec S_ 1 := (fun x v => Host.reduce IntOp.andi x v reducesTo_S4096x2_S_d0_1 h_S_) main_v24 main_c_10
  let main_v26 : IVec S_ 1 := andi main_v19 main_v25
  let main_v27 : FVec F S12x8 .f32 := Host.absf main_arg4
  let main_cst : FVec F S_ .f32 := constant S_ .f32 0x7F800000#32
  let main_v28 : FVec F S12x8 .f32 := broadcastInDim S12x8 ![] bcast_S_S12x8 main_cst
  let main_v29 : IVec S12x8 1 := cmpf .olt main_v27 main_v28
  let main_c_11 : IVec S_ 1 := constantI S_ 1 1#1
  let main_v30 : IVec S_ 1 := (fun x v => Host.reduce IntOp.andi x v reducesTo_S12x8_S_d0_1 h_S_) main_v29 main_c_11
  let main_v31 : IVec S_ 1 := andi main_v26 main_v30
  let main_v32 : FVec F S101100x8 .f32 := Host.absf main_arg5
  let main_cst_12 : FVec F S_ .f32 := constant S_ .f32 0x7F800000#32
  fn_part2 (F := F) main_arg6 main_arg7 main_arg8 main_arg9 main_arg10 main_arg11 main_arg12 main_arg13 main_arg14 main_arg15 main_arg16 main_arg17 main_v31 main_v32 main_cst_12

def fn {F : FTy → Type} [FloatOps F] (main_arg0 : IVec S4096x2 32) (main_arg1 : IVec S4096x200x3 32) (main_arg2 : IVec S4096x1x3 32) (main_arg3 : IVec S4096x2 32) (main_arg4 : FVec F S12x8 .f32) (main_arg5 : FVec F S101100x8 .f32) (main_arg6 : FVec F S20x8 .f32) (main_arg7 : FVec F S96x36 .f32) (main_arg8 : FVec F S36 .f32) (main_arg9 : FVec F S36 .f32) (main_arg10 : FVec F S36x1 .f32) (main_arg11 : FVec F S1 .f32) (main_arg12 : FVec F S80x200 .f32) (main_arg13 : FVec F S200 .f32) (main_arg14 : FVec F S200 .f32) (main_arg15 : FVec F S200x80 .f32) (main_arg16 : FVec F S80 .f32) (main_arg17 : FVec F S80 .f32) (main_arg18 : FVec F S80x2 .f32) (main_arg19 : FVec F S2 .f32) : IVec S_ 1 :=
  let main_c : IVec S_ 32 := constantI S_ 32 0#32
  let main_v0 : IVec S4096x2 32 := broadcastInDim S4096x2 ![] bcast_S_S4096x2 main_c
  let main_v1 : IVec S4096x2 1 := cmpi .sge main_arg0 main_v0
  let main_c_0 : IVec S_ 32 := constantI S_ 32 2#32
  let main_v2 : IVec S4096x2 32 := broadcastInDim S4096x2 ![] bcast_S_S4096x2 main_c_0
  let main_v3 : IVec S4096x2 1 := cmpi .slt main_arg0 main_v2
  let main_v4 : IVec S4096x2 1 := andi main_v1 main_v3
  let main_c_1 : IVec S_ 1 := constantI S_ 1 1#1
  let main_v5 : IVec S_ 1 := (fun x v => Host.reduce IntOp.andi x v reducesTo_S4096x2_S_d0_1 h_S_) main_v4 main_c_1
  let main_c_2 : IVec S_ 32 := constantI S_ 32 0#32
  let main_v6 : IVec S4096x200x3 32 := broadcastInDim S4096x200x3 ![] bcast_S_S4096x200x3 main_c_2
  let main_v7 : IVec S4096x200x3 1 := cmpi .sge main_arg1 main_v6
  let main_c_3 : IVec S_ 32 := constantI S_ 32 100#32
  let main_v8 : IVec S4096x200x3 32 := broadcastInDim S4096x200x3 ![] bcast_S_S4096x200x3 main_c_3
  let main_v9 : IVec S4096x200x3 1 := cmpi .slt main_arg1 main_v8
  let main_v10 : IVec S4096x200x3 1 := andi main_v7 main_v9
  let main_c_4 : IVec S_ 1 := constantI S_ 1 1#1
  let main_v11 : IVec S_ 1 := (fun x v => Host.reduce IntOp.andi x v reducesTo_S4096x200x3_S_d0_1_2 h_S_) main_v10 main_c_4
  let main_v12 : IVec S_ 1 := andi main_v5 main_v11
  let main_c_5 : IVec S_ 32 := constantI S_ 32 0#32
  let main_v13 : IVec S4096x1x3 32 := broadcastInDim S4096x1x3 ![] bcast_S_S4096x1x3 main_c_5
  let main_v14 : IVec S4096x1x3 1 := cmpi .sge main_arg2 main_v13
  let main_c_6 : IVec S_ 32 := constantI S_ 32 100#32
  let main_v15 : IVec S4096x1x3 32 := broadcastInDim S4096x1x3 ![] bcast_S_S4096x1x3 main_c_6
  fn_part1 (F := F) main_arg2 main_arg3 main_arg4 main_arg5 main_arg6 main_arg7 main_arg8 main_arg9 main_arg10 main_arg11 main_arg12 main_arg13 main_arg14 main_arg15 main_arg16 main_arg17 main_v12 main_v14 main_v15
-- ==== Kernel.lean ====
abbrev S4096x2 : Shape := ⟨2, ![4096, 2]⟩
abbrev S4096x200x3 : Shape := ⟨3, ![4096, 200, 3]⟩
abbrev S4096x1x3 : Shape := ⟨3, ![4096, 1, 3]⟩
abbrev S12x8 : Shape := ⟨2, ![12, 8]⟩
abbrev S101100x8 : Shape := ⟨2, ![101100, 8]⟩
abbrev S20x8 : Shape := ⟨2, ![20, 8]⟩
abbrev S96x36 : Shape := ⟨2, ![96, 36]⟩
abbrev S36 : Shape := ⟨1, ![36]⟩
abbrev S36x1 : Shape := ⟨2, ![36, 1]⟩
abbrev S1 : Shape := ⟨1, ![1]⟩
abbrev S80x200 : Shape := ⟨2, ![80, 200]⟩
abbrev S200 : Shape := ⟨1, ![200]⟩
abbrev S200x80 : Shape := ⟨2, ![200, 80]⟩
abbrev S80 : Shape := ⟨1, ![80]⟩
abbrev S80x2 : Shape := ⟨2, ![80, 2]⟩
abbrev S2 : Shape := ⟨1, ![2]⟩
abbrev S4096x200x1 : Shape := ⟨3, ![4096, 200, 1]⟩
abbrev S4096x200 : Shape := ⟨2, ![4096, 200]⟩
abbrev S1x819200 : Shape := ⟨2, ![1, 819200]⟩
abbrev S4096x3 : Shape := ⟨2, ![4096, 3]⟩
abbrev S4096x1 : Shape := ⟨2, ![4096, 1]⟩
abbrev S4096 : Shape := ⟨1, ![4096]⟩
abbrev S819200 : Shape := ⟨1, ![819200]⟩
abbrev S1x4096 : Shape := ⟨2, ![1, 4096]⟩
abbrev S100x8 : Shape := ⟨2, ![100, 8]⟩
abbrev S_ : Shape := ⟨0, ![]⟩
abbrev S128x8 : Shape := ⟨2, ![128, 8]⟩
abbrev S8x128 : Shape := ⟨2, ![8, 128]⟩
abbrev S2x8 : Shape := ⟨2, ![2, 8]⟩
abbrev S10x8 : Shape := ⟨2, ![10, 8]⟩
abbrev S24x36 : Shape := ⟨2, ![24, 36]⟩
abbrev S72x36 : Shape := ⟨2, ![72, 36]⟩
abbrev S36x72 : Shape := ⟨2, ![36, 72]⟩
abbrev S25600x128 : Shape := ⟨2, ![25600, 128]⟩
abbrev S1x1 : Shape := ⟨2, ![1, 1]⟩
abbrev S200x1 : Shape := ⟨2, ![200, 1]⟩
abbrev S80x1 : Shape := ⟨2, ![80, 1]⟩
abbrev S2x80 : Shape := ⟨2, ![2, 80]⟩
abbrev S2x1 : Shape := ⟨2, ![2, 1]⟩
abbrev S2x4096 : Shape := ⟨2, ![2, 4096]⟩
abbrev S1x25600 : Shape := ⟨2, ![1, 25600]⟩
abbrev S1x128 : Shape := ⟨2, ![1, 128]⟩
abbrev S40x128 : Shape := ⟨2, ![40, 128]⟩
abbrev S80x4096 : Shape := ⟨2, ![80, 4096]⟩
abbrev S1x200x128 : Shape := ⟨3, ![1, 200, 128]⟩
abbrev S8x200x128 : Shape := ⟨3, ![8, 200, 128]⟩
abbrev S1600x128 : Shape := ⟨2, ![1600, 128]⟩
abbrev S8x1x128 : Shape := ⟨3, ![8, 1, 128]⟩
abbrev S1600x128x1 : Shape := ⟨3, ![1600, 128, 1]⟩
abbrev S8x25600 : Shape := ⟨2, ![8, 25600]⟩
abbrev S24x25600 : Shape := ⟨2, ![24, 25600]⟩
abbrev S72x25600 : Shape := ⟨2, ![72, 25600]⟩
abbrev S36x25600 : Shape := ⟨2, ![36, 25600]⟩
abbrev S25600 : Shape := ⟨1, ![25600]⟩
abbrev S24x128 : Shape := ⟨2, ![24, 128]⟩
abbrev S1x1x128 : Shape := ⟨3, ![1, 1, 128]⟩
abbrev S8x128x1 : Shape := ⟨3, ![8, 128, 1]⟩
abbrev S16x128 : Shape := ⟨2, ![16, 128]⟩
abbrev S80x128 : Shape := ⟨2, ![80, 128]⟩
abbrev S200x4096 : Shape := ⟨2, ![200, 4096]⟩

abbrev nBuf : Space → Nat
  | .hbm => 161
  | .vmem => 50
  | .smem => 0
  | _ => 0

abbrev hbmTy0_0 (i : Nat) : BufTy := match i % 128 with
  | 0 => ⟨S4096x2, .i32⟩
  | 1 => ⟨S4096x200x3, .i32⟩
  | 2 => ⟨S4096x1x3, .i32⟩
  | 3 => ⟨S4096x2, .i32⟩
  | 4 => ⟨S12x8, .f32⟩
  | 5 => ⟨S101100x8, .f32⟩
  | 6 => ⟨S20x8, .f32⟩
  | 7 => ⟨S96x36, .f32⟩
  | 8 => ⟨S36, .f32⟩
  | 9 => ⟨S36, .f32⟩
  | 10 => ⟨S36x1, .f32⟩
  | 11 => ⟨S1, .f32⟩
  | 12 => ⟨S80x200, .f32⟩
  | 13 => ⟨S200, .f32⟩
  | 14 => ⟨S200, .f32⟩
  | 15 => ⟨S200x80, .f32⟩
  | 16 => ⟨S80, .f32⟩
  | 17 => ⟨S80, .f32⟩
  | 18 => ⟨S80x2, .f32⟩
  | 19 => ⟨S2, .f32⟩
  | 20 => ⟨S4096x200x1, .i32⟩
  | 21 => ⟨S4096x200, .i32⟩
  | 22 => ⟨S1x819200, .i32⟩
  | 23 => ⟨S4096x200x1, .i32⟩
  | 24 => ⟨S4096x200, .i32⟩
  | 25 => ⟨S1x819200, .i32⟩
  | 26 => ⟨S4096x200x1, .i32⟩
  | 27 => ⟨S4096x200, .i32⟩
  | 28 => ⟨S1x819200, .i32⟩
  | 29 => ⟨S4096x3, .i32⟩
  | 30 => ⟨S4096x1, .i32⟩
  | 31 => ⟨S4096, .i32⟩
  | 32 => ⟨S4096x200, .i32⟩
  | 33 => ⟨S819200, .i32⟩
  | 34 => ⟨S1x819200, .i32⟩
  | 35 => ⟨S4096x1, .i32⟩
  | 36 => ⟨S4096, .i32⟩
  | 37 => ⟨S4096x200, .i32⟩
  | 38 => ⟨S819200, .i32⟩
  | 39 => ⟨S1x819200, .i32⟩
  | 40 => ⟨S4096x1, .i32⟩
  | 41 => ⟨S4096, .i32⟩
  | 42 => ⟨S4096x200, .i32⟩
  | 43 => ⟨S819200, .i32⟩
  | 44 => ⟨S1x819200, .i32⟩
  | 45 => ⟨S4096x1, .i32⟩
  | 46 => ⟨S4096, .i32⟩
  | 47 => ⟨S1x4096, .i32⟩
  | 48 => ⟨S4096x1, .i32⟩
  | 49 => ⟨S4096, .i32⟩
  | 50 => ⟨S1x4096, .i32⟩
  | 51 => ⟨S4096x1, .i32⟩
  | 52 => ⟨S4096, .i32⟩
  | 53 => ⟨S1x4096, .i32⟩
  | 54 => ⟨S4096x1, .i32⟩
  | 55 => ⟨S4096, .i32⟩
  | 56 => ⟨S1x4096, .i32⟩
  | 57 => ⟨S4096x1, .i32⟩
  | 58 => ⟨S4096, .i32⟩
  | 59 => ⟨S1x4096, .i32⟩
  | 60 => ⟨S4096x1, .i32⟩
  | 61 => ⟨S4096, .i32⟩
  | 62 => ⟨S1x4096, .i32⟩
  | 63 => ⟨S4096x1, .i32⟩
  | 64 => ⟨S4096, .i32⟩
  | 65 => ⟨S1x4096, .i32⟩
  | 66 => ⟨S100x8, .f32⟩
  | 67 => ⟨S_, .f32⟩
  | 68 => ⟨S128x8, .f32⟩
  | 69 => ⟨S_, .i32⟩
  | 70 => ⟨S1, .i32⟩
  | 71 => ⟨S128x8, .f32⟩
  | 72 => ⟨S8x128, .f32⟩
  | 73 => ⟨S100x8, .f32⟩
  | 74 => ⟨S_, .f32⟩
  | 75 => ⟨S128x8, .f32⟩
  | 76 => ⟨S_, .i32⟩
  | 77 => ⟨S1, .i32⟩
  | 78 => ⟨S128x8, .f32⟩
  | 79 => ⟨S8x128, .f32⟩
  | 80 => ⟨S100x8, .f32⟩
  | 81 => ⟨S_, .f32⟩
  | 82 => ⟨S128x8, .f32⟩
  | 83 => ⟨S_, .i32⟩
  | 84 => ⟨S1, .i32⟩
  | 85 => ⟨S128x8, .f32⟩
  | 86 => ⟨S8x128, .f32⟩
  | 87 => ⟨S2x8, .f32⟩
  | 88 => ⟨S_, .f32⟩
  | 89 => ⟨S128x8, .f32⟩
  | 90 => ⟨S_, .i32⟩
  | 91 => ⟨S1, .i32⟩
  | 92 => ⟨S128x8, .f32⟩
  | 93 => ⟨S8x128, .f32⟩
  | 94 => ⟨S10x8, .f32⟩
  | 95 => ⟨S_, .f32⟩
  | 96 => ⟨S128x8, .f32⟩
  | 97 => ⟨S_, .i32⟩
  | 98 => ⟨S1, .i32⟩
  | 99 => ⟨S128x8, .f32⟩
  | 100 => ⟨S8x128, .f32⟩
  | 101 => ⟨S10x8, .f32⟩
  | 102 => ⟨S_, .f32⟩
  | 103 => ⟨S128x8, .f32⟩
  | 104 => ⟨S_, .i32⟩
  | 105 => ⟨S1, .i32⟩
  | 106 => ⟨S128x8, .f32⟩
  | 107 => ⟨S8x128, .f32⟩
  | 108 => ⟨S10x8, .f32⟩
  | 109 => ⟨S_, .f32⟩
  | 110 => ⟨S128x8, .f32⟩
  | 111 => ⟨S_, .i32⟩
  | 112 => ⟨S1, .i32⟩
  | 113 => ⟨S128x8, .f32⟩
  | 114 => ⟨S8x128, .f32⟩
  | 115 => ⟨S24x36, .f32⟩
  | 116 => ⟨S24x36, .f32⟩
  | 117 => ⟨S24x36, .f32⟩
  | 118 => ⟨S24x36, .f32⟩
  | 119 => ⟨S24x36, .f32⟩
  | 120 => ⟨S24x36, .f32⟩
  | 121 => ⟨S72x36, .f32⟩
  | 122 => ⟨S36x72, .f32⟩
  | 123 => ⟨S25600x128, .i32⟩
  | 124 => ⟨S_, .i32⟩
  | 125 => ⟨S_, .i32⟩
  | 126 => ⟨S25600x128, .i32⟩
  | 127 => ⟨S25600x128, .i32⟩
  | _ => ⟨S4096x2, .i32⟩

abbrev hbmTy0_1 (i : Nat) : BufTy := match i % 128 with
  | 0 => ⟨S25600x128, .i32⟩
  | 1 => ⟨S_, .i32⟩
  | 2 => ⟨S25600x128, .i32⟩
  | 3 => ⟨S25600x128, .i1⟩
  | 4 => ⟨S25600x128, .i32⟩
  | 5 => ⟨S25600x128, .i32⟩
  | 6 => ⟨S_, .i32⟩
  | 7 => ⟨S25600x128, .i32⟩
  | 8 => ⟨S25600x128, .i1⟩
  | 9 => ⟨S25600x128, .i1⟩
  | 10 => ⟨S_, .i32⟩
  | 11 => ⟨S25600x128, .i32⟩
  | 12 => ⟨S25600x128, .i32⟩
  | 13 => ⟨S25600x128, .i32⟩
  | 14 => ⟨S25600x128, .i32⟩
  | 15 => ⟨S25600x128, .i1⟩
  | 16 => ⟨S25600x128, .f32⟩
  | 17 => ⟨S25600x128, .bf16⟩
  | 18 => ⟨S36x1, .f32⟩
  | 19 => ⟨S36x1, .f32⟩
  | 20 => ⟨S36, .f32⟩
  | 21 => ⟨S36x1, .f32⟩
  | 22 => ⟨S1x1, .f32⟩
  | 23 => ⟨S200x80, .f32⟩
  | 24 => ⟨S200x1, .f32⟩
  | 25 => ⟨S200x1, .f32⟩
  | 26 => ⟨S80x200, .f32⟩
  | 27 => ⟨S80x1, .f32⟩
  | 28 => ⟨S80x1, .f32⟩
  | 29 => ⟨S2x80, .f32⟩
  | 30 => ⟨S2x1, .f32⟩
  | 31 => ⟨S2x4096, .f32⟩
  | 32 => ⟨S4096x2, .f32⟩
  | _ => ⟨S4096x2, .i32⟩

abbrev hbmTy (i : Nat) : BufTy := match i / 128 with
  | 0 => hbmTy0_0 i
  | 1 => hbmTy0_1 i
  | _ => ⟨S4096x2, .i32⟩

abbrev bufTy : (tb : Table) → Fin (tcTables nBuf tb) → BufTy
  | .hbm, ⟨i, _⟩ => hbmTy i
  | .local _ .vmem, ⟨0, _⟩ => ⟨S1x25600, .i32⟩
  | .local _ .vmem, ⟨1, _⟩ => ⟨S1x25600, .i32⟩
  | .local _ .vmem, ⟨2, _⟩ => ⟨S1x25600, .i32⟩
  | .local _ .vmem, ⟨3, _⟩ => ⟨S1x25600, .i32⟩
  | .local _ .vmem, ⟨4, _⟩ => ⟨S1x25600, .i32⟩
  | .local _ .vmem, ⟨5, _⟩ => ⟨S1x25600, .i32⟩
  | .local _ .vmem, ⟨6, _⟩ => ⟨S1x25600, .i32⟩
  | .local _ .vmem, ⟨7, _⟩ => ⟨S1x25600, .i32⟩
  | .local _ .vmem, ⟨8, _⟩ => ⟨S1x25600, .i32⟩
  | .local _ .vmem, ⟨9, _⟩ => ⟨S1x25600, .i32⟩
  | .local _ .vmem, ⟨10, _⟩ => ⟨S1x25600, .i32⟩
  | .local _ .vmem, ⟨11, _⟩ => ⟨S1x25600, .i32⟩
  | .local _ .vmem, ⟨12, _⟩ => ⟨S1x128, .i32⟩
  | .local _ .vmem, ⟨13, _⟩ => ⟨S1x128, .i32⟩
  | .local _ .vmem, ⟨14, _⟩ => ⟨S1x128, .i32⟩
  | .local _ .vmem, ⟨15, _⟩ => ⟨S1x128, .i32⟩
  | .local _ .vmem, ⟨16, _⟩ => ⟨S1x128, .i32⟩
  | .local _ .vmem, ⟨17, _⟩ => ⟨S1x128, .i32⟩
  | .local _ .vmem, ⟨18, _⟩ => ⟨S1x128, .i32⟩
  | .local _ .vmem, ⟨19, _⟩ => ⟨S1x128, .i32⟩
  | .local _ .vmem, ⟨20, _⟩ => ⟨S1x128, .i32⟩
  | .local _ .vmem, ⟨21, _⟩ => ⟨S1x128, .i32⟩
  | .local _ .vmem, ⟨22, _⟩ => ⟨S1x128, .i32⟩
  | .local _ .vmem, ⟨23, _⟩ => ⟨S1x128, .i32⟩
  | .local _ .vmem, ⟨24, _⟩ => ⟨S1x128, .i32⟩
  | .local _ .vmem, ⟨25, _⟩ => ⟨S1x128, .i32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S36x72, .f32⟩
  | .local _ .vmem, ⟨34, _⟩ => ⟨S36x1, .f32⟩
  | .local _ .vmem, ⟨35, _⟩ => ⟨S36x1, .f32⟩
  | .local _ .vmem, ⟨36, _⟩ => ⟨S36x1, .f32⟩
  | .local _ .vmem, ⟨37, _⟩ => ⟨S1x1, .f32⟩
  | .local _ .vmem, ⟨38, _⟩ => ⟨S25600x128, .bf16⟩
  | .local _ .vmem, ⟨39, _⟩ => ⟨S200x80, .f32⟩
  | .local _ .vmem, ⟨40, _⟩ => ⟨S200x1, .f32⟩
  | .local _ .vmem, ⟨41, _⟩ => ⟨S200x1, .f32⟩
  | .local _ .vmem, ⟨42, _⟩ => ⟨S80x200, .f32⟩
  | .local _ .vmem, ⟨43, _⟩ => ⟨S80x1, .f32⟩
  | .local _ .vmem, ⟨44, _⟩ => ⟨S80x1, .f32⟩
  | .local _ .vmem, ⟨45, _⟩ => ⟨S2x80, .f32⟩
  | .local _ .vmem, ⟨46, _⟩ => ⟨S2x1, .f32⟩
  | .local _ .vmem, ⟨47, _⟩ => ⟨S2x4096, .f32⟩
  | .local _ .vmem, ⟨48, _⟩ => ⟨S40x128, .f32⟩
  | .local _ .vmem, ⟨49, _⟩ => ⟨S80x4096, .f32⟩
  | _, _ => ⟨S4096x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst : Ref sig .tc := ⟨.hbm, 67, rfl⟩
abbrev main_v47 : Ref sig .tc := ⟨.hbm, 68, rfl⟩
abbrev main_c : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_0 : Ref sig .tc := ⟨.hbm, 74, rfl⟩
abbrev main_v52 : Ref sig .tc := ⟨.hbm, 75, rfl⟩
abbrev main_c_1 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_2 : Ref sig .tc := ⟨.hbm, 81, rfl⟩
abbrev main_v57 : Ref sig .tc := ⟨.hbm, 82, rfl⟩
abbrev main_c_3 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_4 : Ref sig .tc := ⟨.hbm, 88, rfl⟩
abbrev main_v62 : Ref sig .tc := ⟨.hbm, 89, rfl⟩
abbrev main_c_5 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_6 : Ref sig .tc := ⟨.hbm, 95, rfl⟩
abbrev main_v67 : Ref sig .tc := ⟨.hbm, 96, rfl⟩
abbrev main_c_7 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_8 : Ref sig .tc := ⟨.hbm, 102, rfl⟩
abbrev main_v72 : Ref sig .tc := ⟨.hbm, 103, rfl⟩
abbrev main_c_9 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_10 : Ref sig .tc := ⟨.hbm, 109, rfl⟩
abbrev main_v77 : Ref sig .tc := ⟨.hbm, 110, rfl⟩
abbrev main_c_11 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_12 : Ref sig .tc := ⟨.hbm, 124, rfl⟩
abbrev main_call0_v0 : Ref sig .tc := ⟨.hbm, 125, rfl⟩
abbrev main_call0_v1 : Ref sig .tc := ⟨.hbm, 126, rfl⟩
abbrev main_call0_v2 : Ref sig .tc := ⟨.hbm, 127, rfl⟩
abbrev main_call0_v3 : Ref sig .tc := ⟨.hbm, 128, rfl⟩
abbrev main_call0_v4 : Ref sig .tc := ⟨.hbm, 129, rfl⟩
abbrev main_call0_v5 : Ref sig .tc := ⟨.hbm, 130, rfl⟩
abbrev main_call0_v6 : Ref sig .tc := ⟨.hbm, 131, rfl⟩
abbrev main_call0_v7 : Ref sig .tc := ⟨.hbm, 132, rfl⟩
abbrev main_call0_v8 : Ref sig .tc := ⟨.hbm, 133, rfl⟩
abbrev main_call0_c : Ref sig .tc := ⟨.hbm, 134, rfl⟩
abbrev main_call0_v9 : Ref sig .tc := ⟨.hbm, 135, rfl⟩
abbrev main_call0_v10 : Ref sig .tc := ⟨.hbm, 136, rfl⟩
abbrev main_call0_v11 : Ref sig .tc := ⟨.hbm, 137, rfl⟩
abbrev main_call0_c_0 : Ref sig .tc := ⟨.hbm, 138, rfl⟩
abbrev main_call0_v12 : Ref sig .tc := ⟨.hbm, 139, rfl⟩
abbrev main_call0_v13 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_stg25_0 : Ref sig .tc := ⟨.vmem, 38, rfl⟩
abbrev cc0_stg26_0 : Ref sig .tc := ⟨.vmem, 39, rfl⟩
abbrev cc0_stg27_0 : Ref sig .tc := ⟨.vmem, 40, rfl⟩
abbrev cc0_stg28_0 : Ref sig .tc := ⟨.vmem, 41, rfl⟩
abbrev cc0_stg29_0 : Ref sig .tc := ⟨.vmem, 42, rfl⟩
abbrev cc0_stg30_0 : Ref sig .tc := ⟨.vmem, 43, rfl⟩
abbrev cc0_stg31_0 : Ref sig .tc := ⟨.vmem, 44, rfl⟩
abbrev cc0_stg32_0 : Ref sig .tc := ⟨.vmem, 45, rfl⟩
abbrev cc0_stg33_0 : Ref sig .tc := ⟨.vmem, 46, rfl⟩
abbrev cc0_stg34_0 : Ref sig .tc := ⟨.vmem, 47, rfl⟩
abbrev cc0_scratch0 : Ref sig .tc := ⟨.vmem, 48, rfl⟩
abbrev cc0_scratch1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem24_0 : DmaSem sig := 37
abbrev cc0_sem25_0 : DmaSem sig := 38
abbrev cc0_sem26_0 : DmaSem sig := 39
abbrev cc0_sem27_0 : DmaSem sig := 40
abbrev cc0_sem28_0 : DmaSem sig := 41
abbrev cc0_sem29_0 : DmaSem sig := 42
abbrev cc0_sem30_0 : DmaSem sig := 43
abbrev cc0_sem31_0 : DmaSem sig := 44
abbrev cc0_sem32_0 : DmaSem sig := 45
abbrev cc0_sem33_0 : DmaSem sig := 46
abbrev cc0_sem34_0 : DmaSem sig := 47

abbrev nD : Nat := 1
abbrev τ : Topo := Topo.v7x

variable {F : FTy → Type} [FloatOps F]

abbrev grid0 : Pipeline.Grid := ⟨2, ![2, 32], ![false, false]⟩

def k0_cond3 (i : grid0.Coords) : BitVec 1 :=
  let arg0 : BitVec 32 := BitVec.ofNat 32 (i 0).val
  let c1_i32 : BitVec 32 := 1#32
  let v145 : BitVec 1 := Scalar.cmpi .eq arg0 c1_i32
  let v146 : BitVec 32 := Scalar.extui v145
  let c0_i32_42 : BitVec 32 := 0#32
  let v147 : BitVec 1 := Scalar.cmpi .ne v146 c0_i32_42
  v147

def k0_off1 (i : grid0.Coords) : Fin 2 → Nat :=
  let c0_105 : Index := 0#32
  let arg1 : BitVec 32 := BitVec.ofNat 32 (i 1).val
  let c128_i32_104 : BitVec 32 := 128#32
  let v324 : BitVec 32 := Scalar.muli arg1 c128_i32_104
  let v325 : Index := Scalar.indexCast v324
  ![0, v325.toNat]
def k0_cond4 (i : grid0.Coords) : BitVec 1 :=
  let arg0 : BitVec 32 := BitVec.ofNat 32 (i 0).val
  let c1_i32_43 : BitVec 32 := 1#32
  let v148 : BitVec 1 := Scalar.cmpi .eq arg0 c1_i32_43
  let arg1 : BitVec 32 := BitVec.ofNat 32 (i 1).val
  let c31_i32 : BitVec 32 := 31#32
  let v149 : BitVec 1 := Scalar.cmpi .eq arg1 c31_i32
  let v150 : BitVec 1 := Scalar.andi v148 v149
  let v151 : BitVec 32 := Scalar.extui v150
  let c0_i32_44 : BitVec 32 := 0#32
  let v152 : BitVec 1 := Scalar.cmpi .ne v151 c0_i32_44
  v152

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x25600 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x25600 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x25600 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x25600 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x25600 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x25600 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S36x72 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S36x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S36x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S36x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S25600x128 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S200x80 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S200x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S200x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S80x200 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S80x1 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 1 → Memref sig .tc .vmem S80x1 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false, false]

abbrev stage0_32 : Fin 1 → Memref sig .tc .vmem S2x80 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false, false]

abbrev stage0_33 : Fin 1 → Memref sig .tc .vmem S2x1 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false, false]

abbrev stage0_34 : Fin 1 → Memref sig .tc .vmem S2x4096 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false, false]
-- ==== ReferenceIdeal.lean ====
abbrev S4096x2 : Shape := ⟨2, ![4096, 2]⟩
abbrev S4096x200x3 : Shape := ⟨3, ![4096, 200, 3]⟩
abbrev S4096x1x3 : Shape := ⟨3, ![4096, 1, 3]⟩
abbrev S12x8 : Shape := ⟨2, ![12, 8]⟩
abbrev S101100x8 : Shape := ⟨2, ![101100, 8]⟩
abbrev S20x8 : Shape := ⟨2, ![20, 8]⟩
abbrev S96x36 : Shape := ⟨2, ![96, 36]⟩
abbrev S36 : Shape := ⟨1, ![36]⟩
abbrev S36x1 : Shape := ⟨2, ![36, 1]⟩
abbrev S1 : Shape := ⟨1, ![1]⟩
abbrev S80x200 : Shape := ⟨2, ![80, 200]⟩
abbrev S200 : Shape := ⟨1, ![200]⟩
abbrev S200x80 : Shape := ⟨2, ![200, 80]⟩
abbrev S80 : Shape := ⟨1, ![80]⟩
abbrev S80x2 : Shape := ⟨2, ![80, 2]⟩
abbrev S2 : Shape := ⟨1, ![2]⟩
abbrev S3 : Shape := ⟨1, ![3]⟩
abbrev S1x2 : Shape := ⟨2, ![1, 2]⟩
abbrev S_ : Shape := ⟨0, ![]⟩
abbrev S4096x2x1 : Shape := ⟨3, ![4096, 2, 1]⟩
abbrev S1x1x1 : Shape := ⟨3, ![1, 1, 1]⟩
abbrev S4096x2x8 : Shape := ⟨3, ![4096, 2, 8]⟩
abbrev S4096x16 : Shape := ⟨2, ![4096, 16]⟩
abbrev S1x1x3 : Shape := ⟨3, ![1, 1, 3]⟩
abbrev S4096x200x3x1 : Shape := ⟨4, ![4096, 200, 3, 1]⟩
abbrev S1x1x1x1 : Shape := ⟨4, ![1, 1, 1, 1]⟩
abbrev S4096x200x3x8 : Shape := ⟨4, ![4096, 200, 3, 8]⟩
abbrev S4096x200x24 : Shape := ⟨3, ![4096, 200, 24]⟩
abbrev S4096x1x3x1 : Shape := ⟨4, ![4096, 1, 3, 1]⟩
abbrev S4096x1x3x8 : Shape := ⟨4, ![4096, 1, 3, 8]⟩
abbrev S4096x24 : Shape := ⟨2, ![4096, 24]⟩
abbrev S4096x1x24 : Shape := ⟨3, ![4096, 1, 24]⟩
abbrev S4096x200x96 : Shape := ⟨3, ![4096, 200, 96]⟩
abbrev S4096x200x36 : Shape := ⟨3, ![4096, 200, 36]⟩
abbrev S1x1x36 : Shape := ⟨3, ![1, 1, 36]⟩
abbrev S4096x200x1 : Shape := ⟨3, ![4096, 200, 1]⟩
abbrev S4096x80 : Shape := ⟨2, ![4096, 80]⟩
abbrev S4096x200 : Shape := ⟨2, ![4096, 200]⟩
abbrev S1x200 : Shape := ⟨2, ![1, 200]⟩
abbrev S1x80 : Shape := ⟨2, ![1, 80]⟩

abbrev nBuf : Space → Nat
  | .hbm => 326
  | .vmem => 0
  | .smem => 0
  | _ => 0

abbrev hbmTy0_0 (i : Nat) : BufTy := match i % 128 with
  | 0 => ⟨S4096x2, .i32⟩
  | 1 => ⟨S4096x200x3, .i32⟩
  | 2 => ⟨S4096x1x3, .i32⟩
  | 3 => ⟨S4096x2, .i32⟩
  | 4 => ⟨S12x8, .f32⟩
  | 5 => ⟨S101100x8, .f32⟩
  | 6 => ⟨S20x8, .f32⟩
  | 7 => ⟨S96x36, .f32⟩
  | 8 => ⟨S36, .f32⟩
  | 9 => ⟨S36, .f32⟩
  | 10 => ⟨S36x1, .f32⟩
  | 11 => ⟨S1, .f32⟩
  | 12 => ⟨S80x200, .f32⟩
  | 13 => ⟨S200, .f32⟩
  | 14 => ⟨S200, .f32⟩
  | 15 => ⟨S200x80, .f32⟩
  | 16 => ⟨S80, .f32⟩
  | 17 => ⟨S80, .f32⟩
  | 18 => ⟨S80x2, .f32⟩
  | 19 => ⟨S2, .f32⟩
  | 20 => ⟨S2, .i32⟩
  | 21 => ⟨S3, .i32⟩
  | 22 => ⟨S2, .i32⟩
  | 23 => ⟨S1x2, .i32⟩
  | 24 => ⟨S4096x2, .i32⟩
  | 25 => ⟨S4096x2, .i32⟩
  | 26 => ⟨S_, .i32⟩
  | 27 => ⟨S4096x2, .i32⟩
  | 28 => ⟨S4096x2, .i1⟩
  | 29 => ⟨S_, .i32⟩
  | 30 => ⟨S4096x2, .i32⟩
  | 31 => ⟨S4096x2, .i32⟩
  | 32 => ⟨S4096x2, .i32⟩
  | 33 => ⟨S4096x2x1, .i32⟩
  | 34 => ⟨S1, .i32⟩
  | 35 => ⟨S_, .i32⟩
  | 36 => ⟨S4096x2x1, .i32⟩
  | 37 => ⟨S4096x2x1, .i1⟩
  | 38 => ⟨S1x1x1, .i32⟩
  | 39 => ⟨S4096x2x1, .i32⟩
  | 40 => ⟨S4096x2x1, .i1⟩
  | 41 => ⟨S4096x2x1, .i1⟩
  | 42 => ⟨S_, .i1⟩
  | 43 => ⟨S4096x2, .i1⟩
  | 44 => ⟨S4096x2x8, .f32⟩
  | 45 => ⟨S4096x2x8, .i1⟩
  | 46 => ⟨S_, .f32⟩
  | 47 => ⟨S4096x2x8, .f32⟩
  | 48 => ⟨S4096x2x8, .f32⟩
  | 49 => ⟨S4096x16, .f32⟩
  | 50 => ⟨S1x1x3, .i32⟩
  | 51 => ⟨S4096x200x3, .i32⟩
  | 52 => ⟨S4096x200x3, .i32⟩
  | 53 => ⟨S_, .i32⟩
  | 54 => ⟨S4096x200x3, .i32⟩
  | 55 => ⟨S4096x200x3, .i1⟩
  | 56 => ⟨S_, .i32⟩
  | 57 => ⟨S4096x200x3, .i32⟩
  | 58 => ⟨S4096x200x3, .i32⟩
  | 59 => ⟨S4096x200x3, .i32⟩
  | 60 => ⟨S4096x200x3x1, .i32⟩
  | 61 => ⟨S1, .i32⟩
  | 62 => ⟨S_, .i32⟩
  | 63 => ⟨S4096x200x3x1, .i32⟩
  | 64 => ⟨S4096x200x3x1, .i1⟩
  | 65 => ⟨S1x1x1x1, .i32⟩
  | 66 => ⟨S4096x200x3x1, .i32⟩
  | 67 => ⟨S4096x200x3x1, .i1⟩
  | 68 => ⟨S4096x200x3x1, .i1⟩
  | 69 => ⟨S_, .i1⟩
  | 70 => ⟨S4096x200x3, .i1⟩
  | 71 => ⟨S4096x200x3x8, .f32⟩
  | 72 => ⟨S4096x200x3x8, .i1⟩
  | 73 => ⟨S_, .f32⟩
  | 74 => ⟨S4096x200x3x8, .f32⟩
  | 75 => ⟨S4096x200x3x8, .f32⟩
  | 76 => ⟨S4096x200x24, .f32⟩
  | 77 => ⟨S1x1x3, .i32⟩
  | 78 => ⟨S4096x1x3, .i32⟩
  | 79 => ⟨S4096x1x3, .i32⟩
  | 80 => ⟨S_, .i32⟩
  | 81 => ⟨S4096x1x3, .i32⟩
  | 82 => ⟨S4096x1x3, .i1⟩
  | 83 => ⟨S_, .i32⟩
  | 84 => ⟨S4096x1x3, .i32⟩
  | 85 => ⟨S4096x1x3, .i32⟩
  | 86 => ⟨S4096x1x3, .i32⟩
  | 87 => ⟨S4096x1x3x1, .i32⟩
  | 88 => ⟨S1, .i32⟩
  | 89 => ⟨S_, .i32⟩
  | 90 => ⟨S4096x1x3x1, .i32⟩
  | 91 => ⟨S4096x1x3x1, .i1⟩
  | 92 => ⟨S1x1x1x1, .i32⟩
  | 93 => ⟨S4096x1x3x1, .i32⟩
  | 94 => ⟨S4096x1x3x1, .i1⟩
  | 95 => ⟨S4096x1x3x1, .i1⟩
  | 96 => ⟨S_, .i1⟩
  | 97 => ⟨S4096x1x3, .i1⟩
  | 98 => ⟨S4096x1x3x8, .f32⟩
  | 99 => ⟨S4096x1x3x8, .i1⟩
  | 100 => ⟨S_, .f32⟩
  | 101 => ⟨S4096x1x3x8, .f32⟩
  | 102 => ⟨S4096x1x3x8, .f32⟩
  | 103 => ⟨S4096x24, .f32⟩
  | 104 => ⟨S4096x1x24, .f32⟩
  | 105 => ⟨S4096x200x24, .f32⟩
  | 106 => ⟨S4096x200x24, .f32⟩
  | 107 => ⟨S4096x200x24, .f32⟩
  | 108 => ⟨S4096x200x96, .f32⟩
  | 109 => ⟨S4096x200x36, .f32⟩
  | 110 => ⟨S1x1x36, .f32⟩
  | 111 => ⟨S4096x200x36, .f32⟩
  | 112 => ⟨S4096x200x36, .f32⟩
  | 113 => ⟨S_, .f32⟩
  | 114 => ⟨S36, .f32⟩
  | 115 => ⟨S1x1x36, .f32⟩
  | 116 => ⟨S_, .f32⟩
  | 117 => ⟨S1x1x36, .f32⟩
  | 118 => ⟨S1x1x36, .f32⟩
  | 119 => ⟨S_, .i32⟩
  | 120 => ⟨S_, .f32⟩
  | 121 => ⟨S36, .f32⟩
  | 122 => ⟨S1x1x36, .f32⟩
  | 123 => ⟨S_, .f32⟩
  | 124 => ⟨S1x1x36, .f32⟩
  | 125 => ⟨S1x1x36, .f32⟩
  | 126 => ⟨S4096x200x36, .f32⟩
  | 127 => ⟨S4096x200x36, .f32⟩
  | _ => ⟨S4096x2, .i32⟩

abbrev hbmTy0_1 (i : Nat) : BufTy := match i % 128 with
  | 0 => ⟨S4096x200x36, .f32⟩
  | 1 => ⟨S_, .f32⟩
  | 2 => ⟨S_, .f32⟩
  | 3 => ⟨S_, .f32⟩
  | 4 => ⟨S_, .f32⟩
  | 5 => ⟨S36, .f32⟩
  | 6 => ⟨S1x1x36, .f32⟩
  | 7 => ⟨S1x1x36, .f32⟩
  | 8 => ⟨S1x1x36, .f32⟩
  | 9 => ⟨S_, .f32⟩
  | 10 => ⟨S_, .i1⟩
  | 11 => ⟨S_, .f32⟩
  | 12 => ⟨S_, .f32⟩
  | 13 => ⟨S1x1x36, .f32⟩
  | 14 => ⟨S1x1x36, .f32⟩
  | 15 => ⟨S4096x200x36, .f32⟩
  | 16 => ⟨S4096x200x36, .f32⟩
  | 17 => ⟨S_, .f32⟩
  | 18 => ⟨S1x1x36, .f32⟩
  | 19 => ⟨S1x1x36, .f32⟩
  | 20 => ⟨S1x1x36, .f32⟩
  | 21 => ⟨S4096x200x36, .f32⟩
  | 22 => ⟨S4096x200x36, .f32⟩
  | 23 => ⟨S4096x200x36, .f32⟩
  | 24 => ⟨S4096x200x36, .f32⟩
  | 25 => ⟨S_, .f32⟩
  | 26 => ⟨S4096x200x36, .f32⟩
  | 27 => ⟨S4096x200x36, .f32⟩
  | 28 => ⟨S_, .f32⟩
  | 29 => ⟨S4096x200x36, .f32⟩
  | 30 => ⟨S4096x200x36, .f32⟩
  | 31 => ⟨S4096x200x36, .f32⟩
  | 32 => ⟨S_, .f32⟩
  | 33 => ⟨S4096x200x36, .f32⟩
  | 34 => ⟨S4096x200x36, .f32⟩
  | 35 => ⟨S1x1x36, .f32⟩
  | 36 => ⟨S4096x200x36, .f32⟩
  | 37 => ⟨S4096x200x36, .f32⟩
  | 38 => ⟨S4096x200x36, .f32⟩
  | 39 => ⟨S4096x200x36, .f32⟩
  | 40 => ⟨S4096x200x1, .f32⟩
  | 41 => ⟨S1x1x1, .f32⟩
  | 42 => ⟨S4096x200x1, .f32⟩
  | 43 => ⟨S4096x200x1, .f32⟩
  | 44 => ⟨S4096x200x24, .f32⟩
  | 45 => ⟨S4096x200x24, .f32⟩
  | 46 => ⟨S_, .f32⟩
  | 47 => ⟨S4096x24, .f32⟩
  | 48 => ⟨S1x2, .i32⟩
  | 49 => ⟨S4096x2, .i32⟩
  | 50 => ⟨S4096x2, .i32⟩
  | 51 => ⟨S_, .i32⟩
  | 52 => ⟨S4096x2, .i32⟩
  | 53 => ⟨S4096x2, .i1⟩
  | 54 => ⟨S_, .i32⟩
  | 55 => ⟨S4096x2, .i32⟩
  | 56 => ⟨S4096x2, .i32⟩
  | 57 => ⟨S4096x2, .i32⟩
  | 58 => ⟨S4096x2x1, .i32⟩
  | 59 => ⟨S1, .i32⟩
  | 60 => ⟨S_, .i32⟩
  | 61 => ⟨S4096x2x1, .i32⟩
  | 62 => ⟨S4096x2x1, .i1⟩
  | 63 => ⟨S1x1x1, .i32⟩
  | 64 => ⟨S4096x2x1, .i32⟩
  | 65 => ⟨S4096x2x1, .i1⟩
  | 66 => ⟨S4096x2x1, .i1⟩
  | 67 => ⟨S_, .i1⟩
  | 68 => ⟨S4096x2, .i1⟩
  | 69 => ⟨S4096x2x8, .f32⟩
  | 70 => ⟨S4096x2x8, .i1⟩
  | 71 => ⟨S_, .f32⟩
  | 72 => ⟨S4096x2x8, .f32⟩
  | 73 => ⟨S4096x2x8, .f32⟩
  | 74 => ⟨S4096x16, .f32⟩
  | 75 => ⟨S4096x80, .f32⟩
  | 76 => ⟨S4096x200, .f32⟩
  | 77 => ⟨S1x200, .f32⟩
  | 78 => ⟨S4096x200, .f32⟩
  | 79 => ⟨S4096x200, .f32⟩
  | 80 => ⟨S_, .f32⟩
  | 81 => ⟨S200, .f32⟩
  | 82 => ⟨S1x200, .f32⟩
  | 83 => ⟨S_, .f32⟩
  | 84 => ⟨S1x200, .f32⟩
  | 85 => ⟨S1x200, .f32⟩
  | 86 => ⟨S_, .i32⟩
  | 87 => ⟨S_, .f32⟩
  | 88 => ⟨S200, .f32⟩
  | 89 => ⟨S1x200, .f32⟩
  | 90 => ⟨S_, .f32⟩
  | 91 => ⟨S1x200, .f32⟩
  | 92 => ⟨S1x200, .f32⟩
  | 93 => ⟨S4096x200, .f32⟩
  | 94 => ⟨S4096x200, .f32⟩
  | 95 => ⟨S4096x200, .f32⟩
  | 96 => ⟨S_, .f32⟩
  | 97 => ⟨S_, .f32⟩
  | 98 => ⟨S_, .f32⟩
  | 99 => ⟨S_, .f32⟩
  | 100 => ⟨S200, .f32⟩
  | 101 => ⟨S1x200, .f32⟩
  | 102 => ⟨S1x200, .f32⟩
  | 103 => ⟨S1x200, .f32⟩
  | 104 => ⟨S_, .f32⟩
  | 105 => ⟨S_, .i1⟩
  | 106 => ⟨S_, .f32⟩
  | 107 => ⟨S_, .f32⟩
  | 108 => ⟨S1x200, .f32⟩
  | 109 => ⟨S1x200, .f32⟩
  | 110 => ⟨S4096x200, .f32⟩
  | 111 => ⟨S4096x200, .f32⟩
  | 112 => ⟨S_, .f32⟩
  | 113 => ⟨S1x200, .f32⟩
  | 114 => ⟨S1x200, .f32⟩
  | 115 => ⟨S1x200, .f32⟩
  | 116 => ⟨S4096x200, .f32⟩
  | 117 => ⟨S4096x200, .f32⟩
  | 118 => ⟨S4096x200, .f32⟩
  | 119 => ⟨S4096x200, .f32⟩
  | 120 => ⟨S_, .f32⟩
  | 121 => ⟨S4096x200, .f32⟩
  | 122 => ⟨S4096x200, .f32⟩
  | 123 => ⟨S_, .f32⟩
  | 124 => ⟨S4096x200, .f32⟩
  | 125 => ⟨S4096x200, .f32⟩
  | 126 => ⟨S4096x200, .f32⟩
  | 127 => ⟨S_, .f32⟩
  | _ => ⟨S4096x2, .i32⟩

abbrev hbmTy0_2 (i : Nat) : BufTy := match i % 128 with
  | 0 => ⟨S4096x200, .f32⟩
  | 1 => ⟨S4096x200, .f32⟩
  | 2 => ⟨S1x200, .f32⟩
  | 3 => ⟨S4096x200, .f32⟩
  | 4 => ⟨S4096x200, .f32⟩
  | 5 => ⟨S4096x200, .f32⟩
  | 6 => ⟨S4096x200, .f32⟩
  | 7 => ⟨S4096x80, .f32⟩
  | 8 => ⟨S1x80, .f32⟩
  | 9 => ⟨S4096x80, .f32⟩
  | 10 => ⟨S4096x80, .f32⟩
  | 11 => ⟨S_, .f32⟩
  | 12 => ⟨S80, .f32⟩
  | 13 => ⟨S1x80, .f32⟩
  | 14 => ⟨S_, .f32⟩
  | 15 => ⟨S1x80, .f32⟩
  | 16 => ⟨S1x80, .f32⟩
  | 17 => ⟨S_, .i32⟩
  | 18 => ⟨S_, .f32⟩
  | 19 => ⟨S80, .f32⟩
  | 20 => ⟨S1x80, .f32⟩
  | 21 => ⟨S_, .f32⟩
  | 22 => ⟨S1x80, .f32⟩
  | 23 => ⟨S1x80, .f32⟩
  | 24 => ⟨S4096x80, .f32⟩
  | 25 => ⟨S4096x80, .f32⟩
  | 26 => ⟨S4096x80, .f32⟩
  | 27 => ⟨S_, .f32⟩
  | 28 => ⟨S_, .f32⟩
  | 29 => ⟨S_, .f32⟩
  | 30 => ⟨S_, .f32⟩
  | 31 => ⟨S80, .f32⟩
  | 32 => ⟨S1x80, .f32⟩
  | 33 => ⟨S1x80, .f32⟩
  | 34 => ⟨S1x80, .f32⟩
  | 35 => ⟨S_, .f32⟩
  | 36 => ⟨S_, .i1⟩
  | 37 => ⟨S_, .f32⟩
  | 38 => ⟨S_, .f32⟩
  | 39 => ⟨S1x80, .f32⟩
  | 40 => ⟨S1x80, .f32⟩
  | 41 => ⟨S4096x80, .f32⟩
  | 42 => ⟨S4096x80, .f32⟩
  | 43 => ⟨S_, .f32⟩
  | 44 => ⟨S1x80, .f32⟩
  | 45 => ⟨S1x80, .f32⟩
  | 46 => ⟨S1x80, .f32⟩
  | 47 => ⟨S4096x80, .f32⟩
  | 48 => ⟨S4096x80, .f32⟩
  | 49 => ⟨S4096x80, .f32⟩
  | 50 => ⟨S4096x80, .f32⟩
  | 51 => ⟨S_, .f32⟩
  | 52 => ⟨S4096x80, .f32⟩
  | 53 => ⟨S4096x80, .f32⟩
  | 54 => ⟨S_, .f32⟩
  | 55 => ⟨S4096x80, .f32⟩
  | 56 => ⟨S4096x80, .f32⟩
  | 57 => ⟨S4096x80, .f32⟩
  | 58 => ⟨S_, .f32⟩
  | 59 => ⟨S4096x80, .f32⟩
  | 60 => ⟨S4096x80, .f32⟩
  | 61 => ⟨S1x80, .f32⟩
  | 62 => ⟨S4096x80, .f32⟩
  | 63 => ⟨S4096x80, .f32⟩
  | 64 => ⟨S4096x80, .f32⟩
  | 65 => ⟨S4096x80, .f32⟩
  | 66 => ⟨S4096x2, .f32⟩
  | 67 => ⟨S1x2, .f32⟩
  | 68 => ⟨S4096x2, .f32⟩
  | 69 => ⟨S4096x2, .f32⟩
  | _ => ⟨S4096x2, .i32⟩

abbrev hbmTy (i : Nat) : BufTy := match i / 128 with
  | 0 => hbmTy0_0 i
  | 1 => hbmTy0_1 i
  | 2 => hbmTy0_2 i
  | _ => ⟨S4096x2, .i32⟩

abbrev bufTy : (tb : Table) → Fin (tcTables nBuf tb) → BufTy
  | .hbm, ⟨i, _⟩ => hbmTy i
  | _, _ => ⟨S4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v13 : Ref sig .tc := ⟨.hbm, 102, rfl⟩
abbrev main_v14 : Ref sig .tc := ⟨.hbm, 103, rfl⟩
abbrev main_v15 : Ref sig .tc := ⟨.hbm, 104, rfl⟩
abbrev main_v16 : Ref sig .tc := ⟨.hbm, 105, rfl⟩
abbrev main_v17 : Ref sig .tc := ⟨.hbm, 106, rfl⟩
abbrev main_v18 : Ref sig .tc := ⟨.hbm, 107, rfl⟩
abbrev main_v19 : Ref sig .tc := ⟨.hbm, 108, rfl⟩
abbrev main_v20 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_cst : Ref sig .tc := ⟨.hbm, 113, rfl⟩
abbrev main_v24 : Ref sig .tc := ⟨.hbm, 114, rfl⟩
abbrev main_v25 : Ref sig .tc := ⟨.hbm, 115, rfl⟩
abbrev main_cst_2 : Ref sig .tc := ⟨.hbm, 116, rfl⟩
abbrev main_v26 : Ref sig .tc := ⟨.hbm, 117, rfl⟩
abbrev main_v27 : Ref sig .tc := ⟨.hbm, 118, rfl⟩
abbrev main_c_3 : Ref sig .tc := ⟨.hbm, 119, rfl⟩
abbrev main_call3_cst : Ref sig .tc := ⟨.hbm, 120, rfl⟩
abbrev main_call3_v0 : Ref sig .tc := ⟨.hbm, 121, rfl⟩
abbrev main_call3_v1 : Ref sig .tc := ⟨.hbm, 122, rfl⟩
abbrev main_call3_cst_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_v6 : Ref sig .tc := ⟨.hbm, 128, rfl⟩
abbrev main_call3_v7 : Ref sig .tc := ⟨.hbm, 129, rfl⟩
abbrev main_call3_cst_1 : Ref sig .tc := ⟨.hbm, 130, rfl⟩
abbrev main_call3_v8 : Ref sig .tc := ⟨.hbm, 131, rfl⟩
abbrev main_call3_cst_2 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_v12 : Ref sig .tc := ⟨.hbm, 136, rfl⟩
abbrev main_call3_cst_3 : Ref sig .tc := ⟨.hbm, 137, rfl⟩
abbrev main_call3_v13 : Ref sig .tc := ⟨.hbm, 138, rfl⟩
abbrev main_call3_cst_4 : Ref sig .tc := ⟨.hbm, 139, rfl⟩
abbrev main_call3_call0_v0 : Ref sig .tc := ⟨.hbm, 140, rfl⟩
abbrev main_call3_call0_v1 : Ref sig .tc := ⟨.hbm, 141, rfl⟩
abbrev main_v28 : Ref sig .tc := ⟨.hbm, 142, rfl⟩
abbrev main_v29 : Ref sig .tc := ⟨.hbm, 143, rfl⟩
abbrev main_v30 : Ref sig .tc := ⟨.hbm, 144, rfl⟩
abbrev main_cst_4 : Ref sig .tc := ⟨.hbm, 145, rfl⟩
abbrev main_v31 : Ref sig .tc := ⟨.hbm, 146, rfl⟩
abbrev main_v32 : Ref sig .tc := ⟨.hbm, 147, rfl⟩
abbrev main_v33 : Ref sig .tc := ⟨.hbm, 148, rfl⟩
abbrev main_v34 : Ref sig .tc := ⟨.hbm, 149, rfl⟩
abbrev main_v35 : Ref sig .tc := ⟨.hbm, 150, rfl⟩
abbrev main_v36 : Ref sig .tc := ⟨.hbm, 151, rfl⟩
abbrev main_v37 : Ref sig .tc := ⟨.hbm, 152, rfl⟩
abbrev main_cst_5 : Ref sig .tc := ⟨.hbm, 153, rfl⟩
abbrev main_v38 : Ref sig .tc := ⟨.hbm, 154, rfl⟩
abbrev main_v39 : Ref sig .tc := ⟨.hbm, 155, rfl⟩
abbrev main_cst_6 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_cst_7 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_cst_8 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_call4_c : Ref sig .tc := ⟨.hbm, 179, rfl⟩
abbrev main_call4_v0 : Ref sig .tc := ⟨.hbm, 180, rfl⟩
abbrev main_call4_v1 : Ref sig .tc := ⟨.hbm, 181, rfl⟩
abbrev main_call4_c_0 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_call4_v5 : Ref sig .tc := ⟨.hbm, 186, rfl⟩
abbrev main_call4_c_1 : Ref sig .tc := ⟨.hbm, 187, rfl⟩
abbrev main_call4_c_2 : Ref sig .tc := ⟨.hbm, 188, rfl⟩
abbrev main_call4_v6 : Ref sig .tc := ⟨.hbm, 189, rfl⟩
abbrev main_call4_v7 : Ref sig .tc := ⟨.hbm, 190, rfl⟩
abbrev main_call4_v8 : Ref sig .tc := ⟨.hbm, 191, rfl⟩
abbrev main_call4_v9 : Ref sig .tc := ⟨.hbm, 192, rfl⟩
abbrev main_call4_v10 : Ref sig .tc := ⟨.hbm, 193, rfl⟩
abbrev main_call4_v11 : Ref sig .tc := ⟨.hbm, 194, rfl⟩
abbrev main_call4_c_3 : Ref sig .tc := ⟨.hbm, 195, rfl⟩
abbrev main_call4_v12 : Ref sig .tc := ⟨.hbm, 196, rfl⟩
abbrev main_call4_v13 : Ref sig .tc := ⟨.hbm, 197, rfl⟩
abbrev main_call4_v14 : Ref sig .tc := ⟨.hbm, 198, rfl⟩
abbrev main_call4_cst : Ref sig .tc := ⟨.hbm, 199, rfl⟩
abbrev main_call4_v15 : Ref sig .tc := ⟨.hbm, 200, rfl⟩
abbrev main_v60 : Ref sig .tc := ⟨.hbm, 201, rfl⟩
abbrev main_v61 : Ref sig .tc := ⟨.hbm, 202, rfl⟩
abbrev main_v62 : Ref sig .tc := ⟨.hbm, 203, rfl⟩
abbrev main_v63 : Ref sig .tc := ⟨.hbm, 204, rfl⟩
abbrev main_v64 : Ref sig .tc := ⟨.hbm, 205, rfl⟩
abbrev main_v65 : Ref sig .tc := ⟨.hbm, 206, rfl⟩
abbrev main_v66 : Ref sig .tc := ⟨.hbm, 207, rfl⟩
abbrev main_cst_9 : Ref sig .tc := ⟨.hbm, 208, rfl⟩
abbrev main_v67 : Ref sig .tc := ⟨.hbm, 209, rfl⟩
abbrev main_v68 : Ref sig .tc := ⟨.hbm, 210, rfl⟩
abbrev main_cst_10 : Ref sig .tc := ⟨.hbm, 211, rfl⟩
abbrev main_v69 : Ref sig .tc := ⟨.hbm, 212, rfl⟩
abbrev main_v70 : Ref sig .tc := ⟨.hbm, 213, rfl⟩
abbrev main_c_11 : Ref sig .tc := ⟨.hbm, 214, rfl⟩
abbrev main_call5_cst : Ref sig .tc := ⟨.hbm, 215, rfl⟩
abbrev main_call5_v0 : Ref sig .tc := ⟨.hbm, 216, rfl⟩
abbrev main_call5_v1 : Ref sig .tc := ⟨.hbm, 217, rfl⟩
abbrev main_call5_cst_0 : Ref sig .tc := ⟨.hbm, 218, rfl⟩
abbrev main_call5_v2 : Ref sig .tc := ⟨.hbm, 219, rfl⟩
abbrev main_call5_v3 : Ref sig .tc := ⟨.hbm, 220, rfl⟩
abbrev main_call5_v4 : Ref sig .tc := ⟨.hbm, 221, rfl⟩
abbrev main_call5_v5 : Ref sig .tc := ⟨.hbm, 222, rfl⟩
abbrev main_call5_v6 : Ref sig .tc := ⟨.hbm, 223, rfl⟩
abbrev main_call5_v7 : Ref sig .tc := ⟨.hbm, 224, rfl⟩
abbrev main_call5_cst_1 : Ref sig .tc := ⟨.hbm, 225, rfl⟩
abbrev main_call5_v8 : Ref sig .tc := ⟨.hbm, 226, rfl⟩
abbrev main_call5_cst_2 : Ref sig .tc := ⟨.hbm, 227, rfl⟩
abbrev main_call5_v9 : Ref sig .tc := ⟨.hbm, 228, rfl⟩
abbrev main_call5_v10 : Ref sig .tc := ⟨.hbm, 229, rfl⟩
abbrev main_call5_v11 : Ref sig .tc := ⟨.hbm, 230, rfl⟩
abbrev main_call5_v12 : Ref sig .tc := ⟨.hbm, 231, rfl⟩
abbrev main_call5_cst_3 : Ref sig .tc := ⟨.hbm, 232, rfl⟩
abbrev main_call5_v13 : Ref sig .tc := ⟨.hbm, 233, rfl⟩
abbrev main_call5_cst_4 : Ref sig .tc := ⟨.hbm, 234, rfl⟩
abbrev main_call5_call0_v0 : Ref sig .tc := ⟨.hbm, 235, rfl⟩
abbrev main_call5_call0_v1 : Ref sig .tc := ⟨.hbm, 236, rfl⟩
abbrev main_v71 : Ref sig .tc := ⟨.hbm, 237, rfl⟩
abbrev main_v72 : Ref sig .tc := ⟨.hbm, 238, rfl⟩
abbrev main_v73 : Ref sig .tc := ⟨.hbm, 239, rfl⟩
abbrev main_cst_12 : Ref sig .tc := ⟨.hbm, 240, rfl⟩
abbrev main_v74 : Ref sig .tc := ⟨.hbm, 241, rfl⟩
abbrev main_v75 : Ref sig .tc := ⟨.hbm, 242, rfl⟩
abbrev main_v76 : Ref sig .tc := ⟨.hbm, 243, rfl⟩
abbrev main_v77 : Ref sig .tc := ⟨.hbm, 244, rfl⟩
abbrev main_v78 : Ref sig .tc := ⟨.hbm, 245, rfl⟩
abbrev main_v79 : Ref sig .tc := ⟨.hbm, 246, rfl⟩
abbrev main_v80 : Ref sig .tc := ⟨.hbm, 247, rfl⟩
abbrev main_cst_13 : Ref sig .tc := ⟨.hbm, 248, rfl⟩
abbrev main_v81 : Ref sig .tc := ⟨.hbm, 249, rfl⟩
abbrev main_v82 : Ref sig .tc := ⟨.hbm, 250, rfl⟩
abbrev main_cst_14 : Ref sig .tc := ⟨.hbm, 251, rfl⟩
abbrev main_v83 : Ref sig .tc := ⟨.hbm, 252, rfl⟩
abbrev main_v84 : Ref sig .tc := ⟨.hbm, 253, rfl⟩
abbrev main_v85 : Ref sig .tc := ⟨.hbm, 254, rfl⟩
abbrev main_cst_15 : Ref sig .tc := ⟨.hbm, 255, rfl⟩
abbrev main_v86 : Ref sig .tc := ⟨.hbm, 256, rfl⟩
abbrev main_v87 : Ref sig .tc := ⟨.hbm, 257, rfl⟩
abbrev main_v88 : Ref sig .tc := ⟨.hbm, 258, rfl⟩
abbrev main_v89 : Ref sig .tc := ⟨.hbm, 259, rfl⟩
abbrev main_v90 : Ref sig .tc := ⟨.hbm, 260, rfl⟩
abbrev main_v91 : Ref sig .tc := ⟨.hbm, 261, rfl⟩
abbrev main_v92 : Ref sig .tc := ⟨.hbm, 262, rfl⟩
abbrev main_v93 : Ref sig .tc := ⟨.hbm, 263, rfl⟩
abbrev main_v94 : Ref sig .tc := ⟨.hbm, 264, rfl⟩
abbrev main_v95 : Ref sig .tc := ⟨.hbm, 265, rfl⟩
abbrev main_v96 : Ref sig .tc := ⟨.hbm, 266, rfl⟩
abbrev main_cst_16 : Ref sig .tc := ⟨.hbm, 267, rfl⟩
abbrev main_v97 : Ref sig .tc := ⟨.hbm, 268, rfl⟩
abbrev main_v98 : Ref sig .tc := ⟨.hbm, 269, rfl⟩
abbrev main_cst_17 : Ref sig .tc := ⟨.hbm, 270, rfl⟩
abbrev main_v99 : Ref sig .tc := ⟨.hbm, 271, rfl⟩
abbrev main_v100 : Ref sig .tc := ⟨.hbm, 272, rfl⟩
abbrev main_c_18 : Ref sig .tc := ⟨.hbm, 273, rfl⟩
abbrev main_call6_cst : Ref sig .tc := ⟨.hbm, 274, rfl⟩
abbrev main_call6_v0 : Ref sig .tc := ⟨.hbm, 275, rfl⟩
abbrev main_call6_v1 : Ref sig .tc := ⟨.hbm, 276, rfl⟩
abbrev main_call6_cst_0 : Ref sig .tc := ⟨.hbm, 277, rfl⟩
abbrev main_call6_v2 : Ref sig .tc := ⟨.hbm, 278, rfl⟩
abbrev main_call6_v3 : Ref sig .tc := ⟨.hbm, 279, rfl⟩
abbrev main_call6_v4 : Ref sig .tc := ⟨.hbm, 280, rfl⟩
abbrev main_call6_v5 : Ref sig .tc := ⟨.hbm, 281, rfl⟩
abbrev main_call6_v6 : Ref sig .tc := ⟨.hbm, 282, rfl⟩
abbrev main_call6_v7 : Ref sig .tc := ⟨.hbm, 283, rfl⟩
abbrev main_call6_cst_1 : Ref sig .tc := ⟨.hbm, 284, rfl⟩
abbrev main_call6_v8 : Ref sig .tc := ⟨.hbm, 285, rfl⟩
abbrev main_call6_cst_2 : Ref sig .tc := ⟨.hbm, 286, rfl⟩
abbrev main_call6_v9 : Ref sig .tc := ⟨.hbm, 287, rfl⟩
abbrev main_call6_v10 : Ref sig .tc := ⟨.hbm, 288, rfl⟩
abbrev main_call6_v11 : Ref sig .tc := ⟨.hbm, 289, rfl⟩
abbrev main_call6_v12 : Ref sig .tc := ⟨.hbm, 290, rfl⟩
abbrev main_call6_cst_3 : Ref sig .tc := ⟨.hbm, 291, rfl⟩
abbrev main_call6_v13 : Ref sig .tc := ⟨.hbm, 292, rfl⟩
abbrev main_call6_cst_4 : Ref sig .tc := ⟨.hbm, 293, rfl⟩
abbrev main_call6_call0_v0 : Ref sig .tc := ⟨.hbm, 294, rfl⟩
abbrev main_call6_call0_v1 : Ref sig .tc := ⟨.hbm, 295, rfl⟩
abbrev main_v101 : Ref sig .tc := ⟨.hbm, 296, rfl⟩
abbrev main_v102 : Ref sig .tc := ⟨.hbm, 297, rfl⟩
abbrev main_v103 : Ref sig .tc := ⟨.hbm, 298, rfl⟩
abbrev main_cst_19 : Ref sig .tc := ⟨.hbm, 299, rfl⟩
abbrev main_v104 : Ref sig .tc := ⟨.hbm, 300, rfl⟩
abbrev main_v105 : Ref sig .tc := ⟨.hbm, 301, rfl⟩
abbrev main_v106 : Ref sig .tc := ⟨.hbm, 302, rfl⟩
abbrev main_v107 : Ref sig .tc := ⟨.hbm, 303, rfl⟩
abbrev main_v108 : Ref sig .tc := ⟨.hbm, 304, rfl⟩
abbrev main_v109 : Ref sig .tc := ⟨.hbm, 305, rfl⟩
abbrev main_v110 : Ref sig .tc := ⟨.hbm, 306, rfl⟩
abbrev main_cst_20 : Ref sig .tc := ⟨.hbm, 307, rfl⟩
abbrev main_v111 : Ref sig .tc := ⟨.hbm, 308, rfl⟩
abbrev main_v112 : Ref sig .tc := ⟨.hbm, 309, rfl⟩
abbrev main_cst_21 : Ref sig .tc := ⟨.hbm, 310, rfl⟩
abbrev main_v113 : Ref sig .tc := ⟨.hbm, 311, rfl⟩
abbrev main_v114 : Ref sig .tc := ⟨.hbm, 312, rfl⟩
abbrev main_v115 : Ref sig .tc := ⟨.hbm, 313, rfl⟩
abbrev main_cst_22 : Ref sig .tc := ⟨.hbm, 314, rfl⟩
abbrev main_v116 : Ref sig .tc := ⟨.hbm, 315, rfl⟩
abbrev main_v117 : Ref sig .tc := ⟨.hbm, 316, rfl⟩
abbrev main_v118 : Ref sig .tc := ⟨.hbm, 317, rfl⟩
abbrev main_v119 : Ref sig .tc := ⟨.hbm, 318, rfl⟩
abbrev main_v120 : Ref sig .tc := ⟨.hbm, 319, rfl⟩
abbrev main_v121 : Ref sig .tc := ⟨.hbm, 320, rfl⟩
abbrev main_v122 : Ref sig .tc := ⟨.hbm, 321, rfl⟩
abbrev main_v123 : Ref sig .tc := ⟨.hbm, 322, rfl⟩
abbrev main_v124 : Ref sig .tc := ⟨.hbm, 323, rfl⟩
abbrev main_v125 : Ref sig .tc := ⟨.hbm, 324, rfl⟩
abbrev main_v126 : Ref sig .tc := ⟨.hbm, 325, rfl⟩

abbrev nD : Nat := 1
abbrev τ : Topo := Topo.v7x

variable {F : FTy → Type} [FloatOps F]
-- ==== Proof.Tri.lean ====
module

public import Idealize.ShloMosaic.Rules.Step
public import Idealize.ShloMosaic.Lib.Pipeline.FrameBody
public import Idealize.ShloMosaic.Lib.Pipeline.Value

@[expose] public section

noncomputable section

/-! Running a body one operation at a time against a single assertion that owns every buffer the body
    touches: a load reads the contents the assertion names, a store replaces them. -/

namespace Cert.Tri

open Idealize.ShloMosaic
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

/-- `P` owns the memref whole at contents `X`, and is restored when that is handed back; with other
    contents in its place it becomes `P'`. -/
class Cell (P : sProp 𝕄) (c : Thread nD τ) {sp : Space} {s : Shape} {e : EltTy} (m : Memref sig c.2.kind sp s e)
    (X : outParam (s.Idx → Val e)) (P' : outParam ((s.Idx → Val e) → sProp 𝕄)) : Prop where
  out : P ⊢ iprop(owns c m fullShare X ∗ (∀ X', owns c m fullShare X' -∗ P' X'))
  back : P' X = P

instance cell_self (c : Thread nD τ) {sp : Space} {s : Shape} {e : EltTy} (m : Memref sig c.2.kind sp s e)
    (X : s.Idx → Val e) : Cell (owns c m fullShare X : sProp 𝕄) c m X (fun X' => owns c m fullShare X') := ⟨by
  iintro H
  isplitl [H]
  · iexact H
  iintro %X' H
  iexact H, rfl⟩

instance (priority := 900) cell_left (P R : sProp 𝕄) (c : Thread nD τ) {sp : Space} {s : Shape} {e : EltTy}
    (m : Memref sig c.2.kind sp s e) (X : s.Idx → Val e) (P' : (s.Idx → Val e) → sProp 𝕄) [h : Cell P c m X P'] :
    Cell iprop(P ∗ R) c m X (fun X' => iprop(P' X' ∗ R)) := ⟨by
  refine (sep_mono_left h.out).trans ?_
  iintro ⟨⟨H, Hb⟩, HR⟩
  isplitl [H]
  · iexact H
  iintro %X' H
  isplitl [H Hb]
  · iapply Hb
    iexact H
  · iexact HR, by rw [h.back]⟩

instance (priority := 800) cell_right (P R : sProp 𝕄) (c : Thread nD τ) {sp : Space} {s : Shape} {e : EltTy}
    (m : Memref sig c.2.kind sp s e) (X : s.Idx → Val e) (P' : (s.Idx → Val e) → sProp 𝕄) [h : Cell P c m X P'] :
    Cell iprop(R ∗ P) c m X (fun X' => iprop(R ∗ P' X')) := ⟨by
  refine (sep_mono_right h.out).trans ?_
  iintro ⟨HR, ⟨H, Hb⟩⟩
  isplitl [H]
  · iexact H
  iintro %X' H
  isplitl [HR]
  · iexact HR
  · iapply Hb
    iexact H, by rw [h.back]⟩

variable [Preorder Lvl] {defs : Defs nD τ sig Val Λ} {𝒱 : Variants} {c : Thread nD τ} {bd : Option 𝒱.V} {E : Set Name}
variable {s : Shape} {e : EltTy} {α : Type}

/-- A load reads the contents owned. -/
theorem load {cs : CoreSpace} {P : sProp 𝕄} {m : Memref sig c.2.kind cs s e} {r : Rect s} {hl : m.view.LoadsAt r.toLoadRect}
    {X : s.Idx → Val e} {P' : (s.Idx → Val e) → sProp 𝕄} [h : Cell P c m X P']
    {k : (r.shape.Idx → Val e) → Prog (TpuEff nD τ sig Val Λ c.2) α} {Q : α → sProp 𝕄}
    (hk : P ⊢ wp frame (wpE defs 𝒱 c bd) E (k (View.ld X r)) Q) :
    P ⊢ wp frame (wpE defs 𝒱 c bd) E (Prog.lift (.load m r.toLoadRect hl) >>= k) Q := by
  refine h.out.trans ?_
  unfold owns
  iintro ⟨⟨%f, %hf, H⟩, Hb⟩
  have hw := wp_load (defs := defs) (Γ := []) 𝒱 c bd E (m := m) (r := r.toLoadRect) (hl := hl) (k := k) (Q := Q) (q := fullShare) (S := m.view.set) (f := f) (m.view.setOn_subset_set _)
  iapply hw $$ H
  iintro H
  have e1 : m.view.readAt Val r.toLoadRect f = View.ld X r := by rw [View.readAt_eq_ld, hf]
  rw [e1]
  have hk' := hk
  rw [← h.back] at hk'
  iapply hk'
  iapply Hb
  iexists f
  isplitr
  · ipureintro; exact hf
  · iexact H

/-- A store through a rectangle lays its payload over the contents owned. -/
theorem store {cs : CoreSpace} {P : sProp 𝕄} {m : Memref sig c.2.kind cs s e} {r : Rect s} {w : r.shape.Idx → Val e}
    {hx : (m.access r).Stores Finset.univ} {hm : (Finset.univ : Finset r.shape.Idx) = Finset.univ ∨ ∀ a, r.stride a = 1}
    {X : s.Idx → Val e} {P' : (s.Idx → Val e) → sProp 𝕄} [h : Cell P c m X P']
    {k : PUnit → Prog (TpuEff nD τ sig Val Λ c.2) α} {Q : α → sProp 𝕄}
    (hk : P' (r.overlay X w) ⊢ wp frame (wpE defs 𝒱 c bd) E (k ⟨⟩) Q) :
    P ⊢ wp frame (wpE defs 𝒱 c bd) E (Prog.lift (.store m r w Finset.univ hx hm) >>= k) Q := by
  refine h.out.trans ?_
  unfold owns
  iintro ⟨⟨%f, %hf, H⟩, Hb⟩
  have hw := wp_store (defs := defs) (Γ := []) 𝒱 c bd E (m := m) (r := r) (w := w) (hx := hx) (hm := hm) (k := k) (Q := Q) (S := m.view.set) (f := f) (m.setOn_access_subset r _)
  iapply hw $$ H
  iintro H
  iapply hk
  iapply Hb
  iexists ((m.access r).write Val f w Finset.univ)
  isplitr
  · ipureintro
    funext y
    by_cases hy : y ∈ r.set
    · obtain ⟨x, -, rfl⟩ := Finset.mem_map.mp (by rwa [Rect.map_emb_univ] : y ∈ Finset.univ.map r.emb)
      rw [Rect.overlay_emb]
      exact View.read_slice_write_emb r f w (Finset.mem_univ x)
    · rw [Rect.overlay_of_not_mem _ _ _ hy, ← hf]
      exact View.read_slice_write_of_not_mem r f w _ (by rw [Rect.map_emb_univ]; exact hy)
  · iexact H

theorem overlay_unit_zero {β : Type} {off : Fin s.rank → ℕ} (hz : off = fun _ => 0) (inb : ∀ a, off a + s.size a ≤ s.size a)
    (X w : s.Idx → β) : (Rect.unit off s.size inb).overlay X w = w := by
  subst hz
  funext y
  have e := (Rect.whole s).overlay_emb X w y
  rw [Rect.emb_whole_apply] at e
  exact e

/-- A load of the whole. -/
theorem loadW {cs : CoreSpace} {P : sProp 𝕄} {m : Memref sig c.2.kind cs s e} {off : Fin s.rank → ℕ}
    {inb : ∀ a, off a + s.size a ≤ s.size a} {hl : m.view.LoadsAt (Rect.unit off s.size inb).toLoadRect}
    {X : s.Idx → Val e} {P' : (s.Idx → Val e) → sProp 𝕄} [h : Cell P c m X P'] (hz : off = fun _ => 0)
    {k : (s.Idx → Val e) → Prog (TpuEff nD τ sig Val Λ c.2) α} {Q : α → sProp 𝕄}
    (hk : P ⊢ wp frame (wpE defs 𝒱 c bd) E (k X) Q) :
    P ⊢ wp frame (wpE defs 𝒱 c bd) E (Prog.lift (.load m (Rect.unit off s.size inb).toLoadRect hl) >>= k) Q :=
  load (by rw [View.ld_unit_zero hz inb X]; exact hk)

/-- A store of the whole. -/
theorem storeW {cs : CoreSpace} {P : sProp 𝕄} {m : Memref sig c.2.kind cs s e} {off : Fin s.rank → ℕ}
    {inb : ∀ a, off a + s.size a ≤ s.size a} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {X : s.Idx → Val e} {P' : (s.Idx → Val e) → sProp 𝕄} [h : Cell P c m X P'] (hz : off = fun _ => 0)
    {k : PUnit → Prog (TpuEff nD τ sig Val Λ c.2) α} {Q : α → sProp 𝕄}
    (hk : P' w ⊢ wp frame (wpE defs 𝒱 c bd) E (k ⟨⟩) Q) :
    P ⊢ wp frame (wpE defs 𝒱 c bd) E (Prog.lift (.store m (Rect.unit off s.size inb) w Finset.univ hx hm) >>= k) Q :=
  store (by rw [overlay_unit_zero hz inb X w]; exact hk)

/-- A bind whose first program is run by a lemma that ends at a named value. -/
theorem bind {β : Type} {P P₁ : sProp 𝕄} {p : Prog (TpuEff nD τ sig Val Λ c.2) β} {v : β}
    (hp : ∀ Q : β → sProp 𝕄, (P₁ ⊢ Q v) → P ⊢ wp frame (wpE defs 𝒱 c bd) E p Q)
    {k : β → Prog (TpuEff nD τ sig Val Λ c.2) α} {Q : α → sProp 𝕄}
    (hk : P₁ ⊢ wp frame (wpE defs 𝒱 c bd) E (k v) Q) :
    P ⊢ wp frame (wpE defs 𝒱 c bd) E (p >>= k) Q := by
  rw [wp_bind]
  exact hp _ hk

/-- A returned value. -/
theorem ret {P : sProp 𝕄} {a : α} {Q : α → sProp 𝕄} (h : P ⊢ Q a) :
    P ⊢ wp frame (wpE defs 𝒱 c bd) E (pure a) Q := by
  rw [wp_pure]
  exact h.trans (Idealize.SL.BI.fupd_intro ..)

end Cert.Tri
-- ==== Proof.K.BodyKernelIdeal.lean ====
module

public import proofs.«01_k».proof.Proof.Tri
public import proofs.«01_k».proof.Proof.Gen.KernelIdeal.Skeleton
public import proofs.«01_k».proof.Proof.Gen.KernelIdeal.Frame

@[expose] public section

set_option maxRecDepth 16384

noncomputable section

/-! The kernel body at one grid point: what it leaves in the statistics scratch, the feature scratch and the output,
    as plain functions of the blocks it is handed. -/

namespace Cert.KernelIdeal.Hand

open Cert.KernelIdeal.Gen
open Idealize.ShloMosaic Idealize.ShloMosaic.TcCoe
open Idealize.ShloMosaic.Rounds
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The memrefs the body is called on. -/
structure Ar where
  arg2 : Memref sig .tc .vmem S1x25600 .i32
  harg2 : arg2.IsWhole
  arg3 : Memref sig .tc .vmem S1x25600 .i32
  harg3 : arg3.IsWhole
  arg4 : Memref sig .tc .vmem S1x25600 .i32
  harg4 : arg4.IsWhole
  arg5 : Memref sig .tc .vmem S1x25600 .i32
  harg5 : arg5.IsWhole
  arg6 : Memref sig .tc .vmem S1x25600 .i32
  harg6 : arg6.IsWhole
  arg7 : Memref sig .tc .vmem S1x25600 .i32
  harg7 : arg7.IsWhole
  arg8 : Memref sig .tc .vmem S1x128 .i32
  harg8 : arg8.IsWhole
  arg9 : Memref sig .tc .vmem S1x128 .i32
  harg9 : arg9.IsWhole
  arg10 : Memref sig .tc .vmem S1x128 .i32
  harg10 : arg10.IsWhole
  arg11 : Memref sig .tc .vmem S1x128 .i32
  harg11 : arg11.IsWhole
  arg12 : Memref sig .tc .vmem S1x128 .i32
  harg12 : arg12.IsWhole
  arg13 : Memref sig .tc .vmem S1x128 .i32
  harg13 : arg13.IsWhole
  arg14 : Memref sig .tc .vmem S1x128 .i32
  harg14 : arg14.IsWhole
  arg15 : Memref sig .tc .vmem S8x128 .f32
  harg15 : arg15.IsWhole
  arg16 : Memref sig .tc .vmem S8x128 .f32
  harg16 : arg16.IsWhole
  arg17 : Memref sig .tc .vmem S8x128 .f32
  harg17 : arg17.IsWhole
  arg18 : Memref sig .tc .vmem S8x128 .f32
  harg18 : arg18.IsWhole
  arg19 : Memref sig .tc .vmem S8x128 .f32
  harg19 : arg19.IsWhole
  arg20 : Memref sig .tc .vmem S8x128 .f32
  harg20 : arg20.IsWhole
  arg21 : Memref sig .tc .vmem S8x128 .f32
  harg21 : arg21.IsWhole
  arg22 : Memref sig .tc .vmem S36x72 .f32
  harg22 : arg22.IsWhole
  arg23 : Memref sig .tc .vmem S36x1 .f32
  harg23 : arg23.IsWhole
  arg24 : Memref sig .tc .vmem S36x1 .f32
  harg24 : arg24.IsWhole
  arg25 : Memref sig .tc .vmem S36x1 .f32
  harg25 : arg25.IsWhole
  arg26 : Memref sig .tc .vmem S1x1 .f32
  harg26 : arg26.IsWhole
  arg27 : Memref sig .tc .vmem S25600x128 .bf16
  harg27 : arg27.IsWhole
  arg28 : Memref sig .tc .vmem S200x80 .f32
  harg28 : arg28.IsWhole
  arg29 : Memref sig .tc .vmem S200x1 .f32
  harg29 : arg29.IsWhole
  arg30 : Memref sig .tc .vmem S200x1 .f32
  harg30 : arg30.IsWhole
  arg31 : Memref sig .tc .vmem S80x200 .f32
  harg31 : arg31.IsWhole
  arg32 : Memref sig .tc .vmem S80x1 .f32
  harg32 : arg32.IsWhole
  arg33 : Memref sig .tc .vmem S80x1 .f32
  harg33 : arg33.IsWhole
  arg34 : Memref sig .tc .vmem S2x80 .f32
  harg34 : arg34.IsWhole
  arg35 : Memref sig .tc .vmem S2x1 .f32
  harg35 : arg35.IsWhole
  arg36 : Memref sig .tc .vmem S2x4096 .f32
  harg36 : arg36.IsWhole
  arg37 : Memref sig .tc .vmem S40x128 .f32
  harg37 : arg37.IsWhole
  arg38 : Memref sig .tc .vmem S80x4096 .f32
  harg38 : arg38.IsWhole

/-- The contents of the input blocks. -/
structure Xs (F : FTy → Type) where
  a2 : Vec F S1x25600 .i32
  a3 : Vec F S1x25600 .i32
  a4 : Vec F S1x25600 .i32
  a5 : Vec F S1x25600 .i32
  a6 : Vec F S1x25600 .i32
  a7 : Vec F S1x25600 .i32
  a8 : Vec F S1x128 .i32
  a9 : Vec F S1x128 .i32
  a10 : Vec F S1x128 .i32
  a11 : Vec F S1x128 .i32
  a12 : Vec F S1x128 .i32
  a13 : Vec F S1x128 .i32
  a14 : Vec F S1x128 .i32
  a15 : Vec F S8x128 .f32
  a16 : Vec F S8x128 .f32
  a17 : Vec F S8x128 .f32
  a18 : Vec F S8x128 .f32
  a19 : Vec F S8x128 .f32
  a20 : Vec F S8x128 .f32
  a21 : Vec F S8x128 .f32
  a22 : Vec F S36x72 .f32
  a23 : Vec F S36x1 .f32
  a24 : Vec F S36x1 .f32
  a25 : Vec F S36x1 .f32
  a26 : Vec F S1x1 .f32
  a27 : Vec F S25600x128 .bf16
  a28 : Vec F S200x80 .f32
  a29 : Vec F S200x1 .f32
  a30 : Vec F S200x1 .f32
  a31 : Vec F S80x200 .f32
  a32 : Vec F S80x1 .f32
  a33 : Vec F S80x1 .f32
  a34 : Vec F S2x80 .f32
  a35 : Vec F S2x1 .f32

/-- The input buffers, owned at `X`, and `T`. -/
@[reducible] def Ins (c : Dev nD) (A : Ar) (X : Xs F) (T : sProp 𝕄) : sProp 𝕄 :=
  iprop(
    owns (c : Thread nD τ) A.arg2 fullShare X.a2 ∗
    owns (c : Thread nD τ) A.arg3 fullShare X.a3 ∗
    owns (c : Thread nD τ) A.arg4 fullShare X.a4 ∗
    owns (c : Thread nD τ) A.arg5 fullShare X.a5 ∗
    owns (c : Thread nD τ) A.arg6 fullShare X.a6 ∗
    owns (c : Thread nD τ) A.arg7 fullShare X.a7 ∗
    owns (c : Thread nD τ) A.arg8 fullShare X.a8 ∗
    owns (c : Thread nD τ) A.arg9 fullShare X.a9 ∗
    owns (c : Thread nD τ) A.arg10 fullShare X.a10 ∗
    owns (c : Thread nD τ) A.arg11 fullShare X.a11 ∗
    owns (c : Thread nD τ) A.arg12 fullShare X.a12 ∗
    owns (c : Thread nD τ) A.arg13 fullShare X.a13 ∗
    owns (c : Thread nD τ) A.arg14 fullShare X.a14 ∗
    owns (c : Thread nD τ) A.arg15 fullShare X.a15 ∗
    owns (c : Thread nD τ) A.arg16 fullShare X.a16 ∗
    owns (c : Thread nD τ) A.arg17 fullShare X.a17 ∗
    owns (c : Thread nD τ) A.arg18 fullShare X.a18 ∗
    owns (c : Thread nD τ) A.arg19 fullShare X.a19 ∗
    owns (c : Thread nD τ) A.arg20 fullShare X.a20 ∗
    owns (c : Thread nD τ) A.arg21 fullShare X.a21 ∗
    owns (c : Thread nD τ) A.arg22 fullShare X.a22 ∗
    owns (c : Thread nD τ) A.arg23 fullShare X.a23 ∗
    owns (c : Thread nD τ) A.arg24 fullShare X.a24 ∗
    owns (c : Thread nD τ) A.arg25 fullShare X.a25 ∗
    owns (c : Thread nD τ) A.arg26 fullShare X.a26 ∗
    owns (c : Thread nD τ) A.arg27 fullShare X.a27 ∗
    owns (c : Thread nD τ) A.arg28 fullShare X.a28 ∗
    owns (c : Thread nD τ) A.arg29 fullShare X.a29 ∗
    owns (c : Thread nD τ) A.arg30 fullShare X.a30 ∗
    owns (c : Thread nD τ) A.arg31 fullShare X.a31 ∗
    owns (c : Thread nD τ) A.arg32 fullShare X.a32 ∗
    owns (c : Thread nD τ) A.arg33 fullShare X.a33 ∗
    owns (c : Thread nD τ) A.arg34 fullShare X.a34 ∗
    owns (c : Thread nD τ) A.arg35 fullShare X.a35 ∗
    T)

/-- Every buffer the body touches, owned: the inputs at `X`, the statistics at `s`, the features at `x`, the output
    at `o`, and whatever else is held, `R`. -/
@[reducible] def St (c : Dev nD) (A : Ar) (X : Xs F) (s : Vec F S40x128 .f32) (x : Vec F S80x4096 .f32) (o : Vec F S2x4096 .f32)
    (R : sProp 𝕄) : sProp 𝕄 :=
  Ins c A X iprop(owns (c : Thread nD τ) A.arg36 fullShare o ∗ owns (c : Thread nD τ) A.arg37 fullShare s ∗ owns (c : Thread nD τ) A.arg38 fullShare x ∗ R)

theorem z00 : (![0, 0] : Fin 2 → ℕ) = fun _ => 0 := by funext i; fin_cases i <;> rfl

abbrev rS0 : Rect S40x128 := Rect.unit (s := S40x128) ![0, 0] S36x1.size inb_S40x128_S36x1_0_0
abbrev rS1 : Rect S40x128 := Rect.unit (s := S40x128) ![0, 1] S36x1.size inb_S40x128_S36x1_0_1

/-- The behaviour-embedding rows at the block's lanes. -/
def vE (X : Xs F) : FVec F S24x25600 .f32 :=
  k0_pay22 (k0_pay17 X.a15 X.a2) (k0_pay18 X.a3) (k0_pay19 X.a16) (k0_pay20 X.a3) (k0_pay21 X.a3) X.a17 X.a4
/-- Behaviour, candidate and product rows. -/
def vF (X : Xs F) : FVec F S72x25600 .f32 :=
  k0_pay24 (vE X) (k0_pay23 X.a15 X.a5) X.a16 X.a6 X.a17 X.a7
/-- The attention layer's first activations at the block's lanes. -/
def vA (X : Xs F) : FVec F S36x25600 .f32 := k0_pay1 (vF X) X.a22 X.a23
/-- The statistics after the block's sums are added. -/
def st0 (X : Xs F) (s : Vec F S40x128 .f32) : Vec F S40x128 .f32 :=
  rS0.overlay s (k0_pay2 (vF X) X.a22 X.a23 (View.ld s rS0))
def st1 (X : Xs F) (s : Vec F S40x128 .f32) : Vec F S40x128 .f32 :=
  rS1.overlay (st0 X s) (k0_pay3 (vF X) X.a22 X.a23 (View.ld (st0 X s) rS1))
/-- The block's pooled rows. -/
def vW (X : Xs F) (s : Vec F S40x128 .f32) : FVec F S24x128 .f32 :=
  k0_pay5 (vE X) (vA X) (View.ld s rS0) (View.ld s rS1) X.a24 X.a25 X.a26 X.a27
/-- The block's feature columns. -/
def vX (X : Xs F) (s : Vec F S40x128 .f32) : FVec F S80x128 .f32 :=
  k0_pay13 (vW X s) (k0_pay10 (k0_pay6 X.a15 X.a8) (k0_pay7 X.a16 X.a9) (k0_pay8 X.a10) (k0_pay9 X.a17))
    (k0_pay11 X.a18 X.a11) (k0_pay12 X.a19 X.a12) X.a20 X.a13 X.a21 X.a14
/-- The features after the block's columns are written. -/
def stX (i : grid0.Coords) (h : k0_cond3 i = 1#1) (X : Xs F) (s : Vec F S40x128 .f32) (x : Vec F S80x4096 .f32) : Vec F S80x4096 .f32 :=
  (Rect.unit (s := S80x4096) (k0_off1 i) S80x128.size (k0_off1_inb i h)).overlay x (k0_pay4 (vX X s))
/-- The output of the last point. -/
def vO (X : Xs F) (x : Vec F S80x4096 .f32) : Vec F S2x4096 .f32 :=
  k0_pay15 (k0_pay14 x X.a28 X.a29 X.a30 X.a31) X.a32 X.a33 X.a34 X.a35

abbrev cInit (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cStat (i : grid0.Coords) : Prop := (Scalar.cmpi .ne (Scalar.extui (Scalar.cmpi .eq (BitVec.ofNat 32 (i 0).val) 0#32)) 0#32) = 1#1

section Run
variable (c : Dev nD) (i : grid0.Coords) (A : Ar) (X : Xs F) (s : Vec F S40x128 .f32) (x : Vec F S80x4096 .f32) (o : Vec F S2x4096 .f32)
  (R : sProp (MT nD τ sig Unit (Elt F) ℕ (UR sig nD τ) ℕ)) {E : Set ℕ}

theorem part7_init (h : cInit i) (Q : _ → sProp 𝕄) (hQ : St c A X (k0_pay16 (F := F)) x o R ⊢ Q ⟨BitVec.ofNat 32 (i 0).val, BitVec.ofNat 32 (i 1).val, k0_pay17 X.a15 X.a2, k0_pay18 X.a3, k0_pay19 X.a16, k0_pay20 X.a3, k0_pay21 X.a3⟩) :
    St c A X s x o R ⊢ wp frame (wpE (defs₀ (F := F)) Variants.none c none) E (k0_part7 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38 ) Q := by
  rw [k0_part7_eq_skeleton]
  unfold k0_part7_skel
  dsimp +zeta only
  rw [dif_pos h]
  refine Tri.loadW  z00 ?_
  refine Tri.storeW  z00 ?_
  refine Tri.loadW  z00 ?_
  refine Tri.loadW  z00 ?_
  refine Tri.loadW  z00 ?_
  refine Tri.loadW  z00 ?_
  exact Tri.ret hQ

theorem part7_skip (h : ¬ cInit i) (Q : _ → sProp 𝕄) (hQ : St c A X s x o R ⊢ Q ⟨BitVec.ofNat 32 (i 0).val, BitVec.ofNat 32 (i 1).val, k0_pay17 X.a15 X.a2, k0_pay18 X.a3, k0_pay19 X.a16, k0_pay20 X.a3, k0_pay21 X.a3⟩) :
    St c A X s x o R ⊢ wp frame (wpE (defs₀ (F := F)) Variants.none c none) E (k0_part7 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38 ) Q := by
  rw [k0_part7_eq_skeleton]
  unfold k0_part7_skel
  dsimp +zeta only
  rw [dif_neg h]
  refine Tri.loadW  z00 ?_
  refine Tri.loadW  z00 ?_
  refine Tri.loadW  z00 ?_
  refine Tri.loadW  z00 ?_
  exact Tri.ret hQ

theorem part8 (v25 : FVec F S8x25600 .f32) (v33 : IVec S1600x128 32) (v37 : FVec F S1600x128 .f32) (v39 : IVec S1600x128 1) (v41 : IVec S1600x128 32) (Q : _ → sProp 𝕄) (hQ : St c A X s x o R ⊢ Q ⟨k0_pay22 v25 v33 v37 v39 v41 X.a17 X.a4, k0_pay23 X.a15 X.a5⟩) :
    St c A X s x o R ⊢ wp frame (wpE (defs₀ (F := F)) Variants.none c none) E (k0_part8 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38 v25 v33 v37 v39 v41) Q := by
  rw [k0_part8_eq_skeleton]
  unfold k0_part8_skel
  refine Tri.loadW  z00 ?_
  refine Tri.loadW  z00 ?_
  refine Tri.loadW  z00 ?_
  refine Tri.loadW  z00 ?_
  exact Tri.ret hQ

theorem part9 (v68 : FVec F S24x25600 .f32) (v89 : FVec F S8x25600 .f32) (Q : _ → sProp 𝕄) (hQ : St c A X s x o R ⊢ Q ⟨k0_pay24 v68 v89 X.a16 X.a6 X.a17 X.a7, X.a22⟩) :
    St c A X s x o R ⊢ wp frame (wpE (defs₀ (F := F)) Variants.none c none) E (k0_part9 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38 v68 v89) Q := by
  rw [k0_part9_eq_skeleton]
  unfold k0_part9_skel
  refine Tri.loadW  z00 ?_
  refine Tri.loadW  z00 ?_
  refine Tri.loadW  z00 ?_
  refine Tri.loadW  z00 ?_
  refine Tri.loadW  z00 ?_
  exact Tri.ret hQ

theorem part1 (v68 : FVec F S24x25600 .f32) (v141 : FVec F S36x25600 .f32) (Q : _ → sProp 𝕄) (hQ : St c A X s x o R ⊢ Q (k0_pay5 v68 v141 (View.ld s rS0) (View.ld s rS1) X.a24 X.a25 X.a26 X.a27)) :
    St c A X s x o R ⊢ wp frame (wpE (defs₀ (F := F)) Variants.none c none) E (k0_part1 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38 v68 v141) Q := by
  rw [k0_part1_eq_skeleton]
  unfold k0_part1_skel
  refine Tri.load  ?_
  refine Tri.load  ?_
  refine Tri.loadW  z00 ?_
  refine Tri.loadW  z00 ?_
  refine Tri.loadW  z00 ?_
  refine Tri.loadW  z00 ?_
  exact Tri.ret hQ

theorem part2  (Q : _ → sProp 𝕄) (hQ : St c A X s x o R ⊢ Q ⟨k0_pay6 X.a15 X.a8, k0_pay7 X.a16 X.a9, k0_pay8 X.a10, k0_pay9 X.a17⟩) :
    St c A X s x o R ⊢ wp frame (wpE (defs₀ (F := F)) Variants.none c none) E (k0_part2 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38 ) Q := by
  rw [k0_part2_eq_skeleton]
  unfold k0_part2_skel
  refine Tri.loadW  z00 ?_
  refine Tri.loadW  z00 ?_
  refine Tri.loadW  z00 ?_
  refine Tri.loadW  z00 ?_
  refine Tri.loadW  z00 ?_
  refine Tri.loadW  z00 ?_
  exact Tri.ret hQ

theorem part3 (v211 : FVec F S8x128 .f32) (v229 : FVec F S8x128 .f32) (v237 : IVec S8x128 32) (v238 : FVec F S8x1x128 .f32) (Q : _ → sProp 𝕄) (hQ : St c A X s x o R ⊢ Q ⟨k0_pay10 v211 v229 v237 v238, k0_pay11 X.a18 X.a11, k0_pay12 X.a19 X.a12⟩) :
    St c A X s x o R ⊢ wp frame (wpE (defs₀ (F := F)) Variants.none c none) E (k0_part3 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38 v211 v229 v237 v238) Q := by
  rw [k0_part3_eq_skeleton]
  unfold k0_part3_skel
  refine Tri.loadW  z00 ?_
  refine Tri.loadW  z00 ?_
  refine Tri.loadW  z00 ?_
  refine Tri.loadW  z00 ?_
  exact Tri.ret hQ

theorem part4 (b : BitVec 32) (h : k0_cond3 i = 1#1) (Q : _ → sProp 𝕄) (hQ : St c A X s x o R ⊢ Q (vX X s)) :
    St c A X s x o R ⊢ wp frame (wpE (defs₀ (F := F)) Variants.none c none) E (k0_part4 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38 b (vE X) (vA X) h) Q := by
  rw [k0_part4_eq_skeleton]
  unfold k0_part4_skel
  refine Tri.bind (part1 c i A X s x o R _ _) ?_
  refine Tri.bind (part2 c i A X s x o R) ?_
  refine Tri.bind (part3 c i A X s x o R _ _ _ _) ?_
  refine Tri.loadW  z00 ?_
  refine Tri.loadW  z00 ?_
  refine Tri.loadW  z00 ?_
  refine Tri.loadW  z00 ?_
  refine Tri.load  ?_
  exact Tri.ret hQ

theorem part5  (Q : _ → sProp 𝕄) (hQ : St c A X s x o R ⊢ Q (k0_pay14 x X.a28 X.a29 X.a30 X.a31)) :
    St c A X s x o R ⊢ wp frame (wpE (defs₀ (F := F)) Variants.none c none) E (k0_part5 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38 ) Q := by
  rw [k0_part5_eq_skeleton]
  unfold k0_part5_skel
  refine Tri.loadW  z00 ?_
  refine Tri.loadW  z00 ?_
  refine Tri.loadW  z00 ?_
  refine Tri.loadW  z00 ?_
  refine Tri.loadW  z00 ?_
  exact Tri.ret hQ

theorem part6  (Q : _ → sProp 𝕄) (hQ : St c A X s x (vO X x) R ⊢ Q ⟨⟩) :
    St c A X s x o R ⊢ wp frame (wpE (defs₀ (F := F)) Variants.none c none) E (k0_part6 (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38 ) Q := by
  rw [k0_part6_eq_skeleton]
  unfold k0_part6_skel
  refine Tri.bind (part5 c i A X s x o R) ?_
  refine Tri.loadW  z00 ?_
  refine Tri.loadW  z00 ?_
  refine Tri.loadW  z00 ?_
  refine Tri.loadW  z00 ?_
  refine Tri.loadW  z00 ?_
  refine Tri.storeW  z00 ?_
  exact Tri.ret hQ

theorem body_A (hI : cInit i) (hS : cStat i) (hX : ¬ k0_cond3 i = 1#1) (hO : ¬ k0_cond4 i = 1#1) (Q : _ → sProp 𝕄) (hQ : St c A X (st1 X (k0_pay16 (F := F))) x o R ⊢ Q ⟨⟩) :
    St c A X s x o R ⊢ wp frame (wpE (defs₀ (F := F)) Variants.none c none) E (cc0__din_kernel (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38) Q := by
  rw [cc0__din_kernel_eq_skeleton]
  unfold cc0__din_kernel_skel
  refine Tri.bind (part7_init c i A X s x o R hI) ?_
  refine Tri.bind (part8 c i A X (k0_pay16 (F := F)) x o R _ _ _ _ _) ?_
  refine Tri.bind (part9 c i A X (k0_pay16 (F := F)) x o R _ _) ?_
  refine Tri.loadW  z00 ?_
  dsimp +zeta only
  rw [dif_pos hS, dif_neg hX, dif_neg hO]
  refine Tri.load  ?_
  refine Tri.load  ?_
  refine Tri.store  ?_
  refine Tri.load  ?_
  refine Tri.load  ?_
  refine Tri.store  ?_
  exact Tri.ret hQ

theorem body_B (hI : ¬ cInit i) (hS : cStat i) (hX : ¬ k0_cond3 i = 1#1) (hO : ¬ k0_cond4 i = 1#1) (Q : _ → sProp 𝕄) (hQ : St c A X (st1 X s) x o R ⊢ Q ⟨⟩) :
    St c A X s x o R ⊢ wp frame (wpE (defs₀ (F := F)) Variants.none c none) E (cc0__din_kernel (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38) Q := by
  rw [cc0__din_kernel_eq_skeleton]
  unfold cc0__din_kernel_skel
  refine Tri.bind (part7_skip c i A X s x o R hI) ?_
  refine Tri.bind (part8 c i A X s x o R _ _ _ _ _) ?_
  refine Tri.bind (part9 c i A X s x o R _ _) ?_
  refine Tri.loadW  z00 ?_
  dsimp +zeta only
  rw [dif_pos hS, dif_neg hX, dif_neg hO]
  refine Tri.load  ?_
  refine Tri.load  ?_
  refine Tri.store  ?_
  refine Tri.load  ?_
  refine Tri.load  ?_
  refine Tri.store  ?_
  exact Tri.ret hQ

theorem body_C (hI : ¬ cInit i) (hS : ¬ cStat i) (hX : k0_cond3 i = 1#1) (hO : ¬ k0_cond4 i = 1#1) (Q : _ → sProp 𝕄) (hQ : St c A X s (stX i hX X s x) o R ⊢ Q ⟨⟩) :
    St c A X s x o R ⊢ wp frame (wpE (defs₀ (F := F)) Variants.none c none) E (cc0__din_kernel (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38) Q := by
  rw [cc0__din_kernel_eq_skeleton]
  unfold cc0__din_kernel_skel
  refine Tri.bind (part7_skip c i A X s x o R hI) ?_
  refine Tri.bind (part8 c i A X s x o R _ _ _ _ _) ?_
  refine Tri.bind (part9 c i A X s x o R _ _) ?_
  refine Tri.loadW  z00 ?_
  dsimp +zeta only
  rw [dif_neg hS, dif_pos hX, dif_neg hO]
  refine Tri.bind (part4 c i A X s x o R _ hX) ?_
  refine Tri.store  ?_
  exact Tri.ret hQ

theorem body_D (hI : ¬ cInit i) (hS : ¬ cStat i) (hX : k0_cond3 i = 1#1) (hO : k0_cond4 i = 1#1) (Q : _ → sProp 𝕄) (hQ : St c A X s (stX i hX X s x) (vO X (stX i hX X s x)) R ⊢ Q ⟨⟩) :
    St c A X s x o R ⊢ wp frame (wpE (defs₀ (F := F)) Variants.none c none) E (cc0__din_kernel (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.harg38) Q := by
  rw [cc0__din_kernel_eq_skeleton]
  unfold cc0__din_kernel_skel
  refine Tri.bind (part7_skip c i A X s x o R hI) ?_
  refine Tri.bind (part8 c i A X s x o R _ _ _ _ _) ?_
  refine Tri.bind (part9 c i A X s x o R _ _) ?_
  refine Tri.loadW  z00 ?_
  dsimp +zeta only
  rw [dif_neg hS, dif_pos hX, dif_pos hO]
  refine Tri.bind (part4 c i A X s x o R _ hX) ?_
  refine Tri.store  ?_
  refine Tri.bind (part6 c i A X s (stX i hX X s x) o R) ?_
  exact Tri.ret hQ

end Run

end Cert.KernelIdeal.Hand
-- ==== Proof.K.LaunchKernelIdeal.lean ====
module

public import proofs.«01_k».proof.Proof.K.BodyKernelIdeal
public import Idealize.ShloMosaic.Lib.Claim
public import Idealize.ShloMosaic.Lib.ValueIdx

@[expose] public section

set_option maxRecDepth 16384

noncomputable section

/-! The launch: what the scratch buffers hold before each point, the body obligation at every point, and the run. -/

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the points before point 32 — by arithmetic of the point. -/
theorem hcond0_1 : ∀ t : Fin cfg0.N, cond0_1 (grid0.coords t) ↔ t.val < 32 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_1, e0, e1]
    word_cmp
   : ∀ t : Fin grid0.N, cond0_1 (grid0.coords t) ↔ t.val < 32)

/-- The condition of the body's `scf.if` 2 (`k0_h3`), from the grid coordinates (the skeleton's scalar
    chain substituted). -/
abbrev cond0_2 (i : grid0.Coords) : Prop := k0_cond3 i = 1#1
/-- It holds at the points from point 32 on — by arithmetic of the point. -/
theorem hcond0_2 : ∀ t : Fin cfg0.N, cond0_2 (grid0.coords t) ↔ 32 ≤ t.val :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_2, k0_cond3, e0, e1]
    word_cmp
   : ∀ t : Fin grid0.N, cond0_2 (grid0.coords t) ↔ 32 ≤ t.val)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 64 = 63 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_3, k0_cond4, e0, e1]
    word_cmp
   : ∀ t : Fin grid0.N, cond0_3 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-- Window 19 is never idle (an input). -/
theorem liveAt0_19 : ∀ t : Fin cfg0.N, cfg0.idle 19 (grid0.coords t) = false := fun _ => rfl
/-- Window 20 is never idle (an input). -/
theorem liveAt0_20 : ∀ t : Fin cfg0.N, cfg0.idle 20 (grid0.coords t) = false := fun _ => rfl
/-- Window 21 is never idle (an input). -/
theorem liveAt0_21 : ∀ t : Fin cfg0.N, cfg0.idle 21 (grid0.coords t) = false := fun _ => rfl
/-- Window 22 is never idle (an input). -/
theorem liveAt0_22 : ∀ t : Fin cfg0.N, cfg0.idle 22 (grid0.coords t) = false := fun _ => rfl
/-- Window 23 is never idle (an input). -/
theorem liveAt0_23 : ∀ t : Fin cfg0.N, cfg0.idle 23 (grid0.coords t) = false := fun _ => rfl
/-- Window 24 is never idle (an input). -/
theorem liveAt0_24 : ∀ t : Fin cfg0.N, cfg0.idle 24 (grid0.coords t) = false := fun _ => rfl
/-- Window 25 is never idle (an input). -/
theorem liveAt0_25 : ∀ t : Fin cfg0.N, cfg0.idle 25 (grid0.coords t) = false := fun _ => rfl
/-- Window 26 is never idle (an input). -/
theorem liveAt0_26 : ∀ t : Fin cfg0.N, cfg0.idle 26 (grid0.coords t) = false := fun _ => rfl
/-- Window 27 is never idle (an input). -/
theorem liveAt0_27 : ∀ t : Fin cfg0.N, cfg0.idle 27 (grid0.coords t) = false := fun _ => rfl
/-- Window 28 is never idle (an input). -/
theorem liveAt0_28 : ∀ t : Fin cfg0.N, cfg0.idle 28 (grid0.coords t) = false := fun _ => rfl
/-- Window 29 is never idle (an input). -/
theorem liveAt0_29 : ∀ t : Fin cfg0.N, cfg0.idle 29 (grid0.coords t) = false := fun _ => rfl
/-- Window 30 is never idle (an input). -/
theorem liveAt0_30 : ∀ t : Fin cfg0.N, cfg0.idle 30 (grid0.coords t) = false := fun _ => rfl
/-- Window 31 is never idle (an input). -/
theorem liveAt0_31 : ∀ t : Fin cfg0.N, cfg0.idle 31 (grid0.coords t) = false := fun _ => rfl
/-- Window 32 is never idle (an input). -/
theorem liveAt0_32 : ∀ t : Fin cfg0.N, cfg0.idle 32 (grid0.coords t) = false := fun _ => rfl
/-- Window 33 is never idle (an input). -/
theorem liveAt0_33 : ∀ t : Fin cfg0.N, cfg0.idle 33 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x25600 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x25600 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x25600 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x25600 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x25600 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x25600 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .i32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .i32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .i32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S8x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S36x72 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S36x1 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S36x1 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S36x1 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x1 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S25600x128 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S200x80 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S200x1 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S200x1 .f32 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S80x200 .f32 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S80x1 .f32 := win0_30.stage (cfg0.slots t 30)
abbrev hs0_30 (t : Fin cfg0.N) : (ms0_30 t).IsWhole := hstage0_30 ((cfg0.slots t 30).cast nbuf0_30)
abbrev ms0_31 (t : Fin cfg0.N) : Memref sig .tc .vmem S80x1 .f32 := win0_31.stage (cfg0.slots t 31)
abbrev hs0_31 (t : Fin cfg0.N) : (ms0_31 t).IsWhole := hstage0_31 ((cfg0.slots t 31).cast nbuf0_31)
abbrev ms0_32 (t : Fin cfg0.N) : Memref sig .tc .vmem S2x80 .f32 := win0_32.stage (cfg0.slots t 32)
abbrev hs0_32 (t : Fin cfg0.N) : (ms0_32 t).IsWhole := hstage0_32 ((cfg0.slots t 32).cast nbuf0_32)
abbrev ms0_33 (t : Fin cfg0.N) : Memref sig .tc .vmem S2x1 .f32 := win0_33.stage (cfg0.slots t 33)
abbrev hs0_33 (t : Fin cfg0.N) : (ms0_33 t).IsWhole := hstage0_33 ((cfg0.slots t 33).cast nbuf0_33)
abbrev ms0_34 (t : Fin cfg0.N) : Memref sig .tc .vmem S2x4096 .f32 := win0_34.stage (cfg0.slots t 34)
abbrev hs0_34 (t : Fin cfg0.N) : (ms0_34 t).IsWhole := hstage0_34 ((cfg0.slots t 34).cast nbuf0_34)
/-- The scratch operands: whole scoped buffers of the kernel's own, passed beside the windows. -/
abbrev scM0_0 : Memref sig .tc .vmem S40x128 .f32 := Memref.whole cc0_scratch0
abbrev scM0_1 : Memref sig .tc .vmem S80x4096 .f32 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ) (ρ : Dev nD → PrngReg)

/-- The memrefs the body is called on at point `t`. -/
@[reducible] def At (t : Fin cfg0.N) : Ar where
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg11 := ms0_9 t
  harg11 := hs0_9 t
  arg12 := ms0_10 t
  harg12 := hs0_10 t
  arg13 := ms0_11 t
  harg13 := hs0_11 t
  arg14 := ms0_12 t
  harg14 := hs0_12 t
  arg15 := ms0_13 t
  harg15 := hs0_13 t
  arg16 := ms0_14 t
  harg16 := hs0_14 t
  arg17 := ms0_15 t
  harg17 := hs0_15 t
  arg18 := ms0_16 t
  harg18 := hs0_16 t
  arg19 := ms0_17 t
  harg19 := hs0_17 t
  arg20 := ms0_18 t
  harg20 := hs0_18 t
  arg21 := ms0_19 t
  harg21 := hs0_19 t
  arg22 := ms0_20 t
  harg22 := hs0_20 t
  arg23 := ms0_21 t
  harg23 := hs0_21 t
  arg24 := ms0_22 t
  harg24 := hs0_22 t
  arg25 := ms0_23 t
  harg25 := hs0_23 t
  arg26 := ms0_24 t
  harg26 := hs0_24 t
  arg27 := ms0_25 t
  harg27 := hs0_25 t
  arg28 := ms0_26 t
  harg28 := hs0_26 t
  arg29 := ms0_27 t
  harg29 := hs0_27 t
  arg30 := ms0_28 t
  harg30 := hs0_28 t
  arg31 := ms0_29 t
  harg31 := hs0_29 t
  arg32 := ms0_30 t
  harg32 := hs0_30 t
  arg33 := ms0_31 t
  harg33 := hs0_31 t
  arg34 := ms0_32 t
  harg34 := hs0_32 t
  arg35 := ms0_33 t
  harg35 := hs0_33 t
  arg36 := ms0_34 t
  harg36 := hs0_34 t
  arg37 := scM0_0
  harg37 := Memref.isWhole_whole _
  arg38 := scM0_1
  harg38 := Memref.isWhole_whole _

/-- The input blocks at point `t`. -/
@[reducible] def XX (c : Dev nD) (t : Fin cfg0.N) : Xs F where
  a2 := iblk m c 0 t
  a3 := iblk m c 1 t
  a4 := iblk m c 2 t
  a5 := iblk m c 3 t
  a6 := iblk m c 4 t
  a7 := iblk m c 5 t
  a8 := iblk m c 6 t
  a9 := iblk m c 7 t
  a10 := iblk m c 8 t
  a11 := iblk m c 9 t
  a12 := iblk m c 10 t
  a13 := iblk m c 11 t
  a14 := iblk m c 12 t
  a15 := iblk m c 13 t
  a16 := iblk m c 14 t
  a17 := iblk m c 15 t
  a18 := iblk m c 16 t
  a19 := iblk m c 17 t
  a20 := iblk m c 18 t
  a21 := iblk m c 19 t
  a22 := iblk m c 20 t
  a23 := iblk m c 21 t
  a24 := iblk m c 22 t
  a25 := iblk m c 23 t
  a26 := iblk m c 24 t
  a27 := iblk m c 25 t
  a28 := iblk m c 26 t
  a29 := iblk m c 27 t
  a30 := iblk m c 28 t
  a31 := iblk m c 29 t
  a32 := iblk m c 30 t
  a33 := iblk m c 31 t
  a34 := iblk m c 32 t
  a35 := iblk m c 33 t

/-- The grid point of number `n`. -/
def pt (n : ℕ) : Fin cfg0.N := ⟨n % 64, Nat.lt_of_lt_of_eq (Nat.mod_lt _ (by decide)) (N_0 : cfg0.N = 64).symm⟩

theorem pt_val (t : Fin cfg0.N) : pt t.val = t := by
  apply Fin.ext
  have ht : t.val < 64 := Nat.lt_of_lt_of_eq t.isLt N_0
  show t.val % 64 = t.val
  exact Nat.mod_eq_of_lt ht

/-- The statistics scratch before point `n`, for `n` at least one: the sums over the blocks seen in the first pass. -/
def sAt (c : Dev nD) : ℕ → Vec F S40x128 .f32
  | 0 => k0_pay16 (F := F)
  | n + 1 => if n < 32 then st1 (XX m c (pt n)) (sAt c n) else sAt c n

/-- The whole feature matrix, block by block. -/
def Xfin (c : Dev nD) : Vec F S80x4096 .f32 := fun ix =>
  k0_pay4 (vX (XX m c (pt (32 + (ix 1).val / 128))) (sAt m c 32))
    (ix2 (ix 0) ⟨(ix 1).val % 128, Nat.mod_lt _ (by decide)⟩)

/-- What the scratch buffers hold before point `n`. -/
def Inv (c : Dev nD) (n : ℕ) (s : Vec F S40x128 .f32) (x : Vec F S80x4096 .f32) : Prop :=
  n ≠ 0 → s = sAt m c n ∧ ∀ ix : S80x4096.Idx, (ix 1).val < 128 * (n - 32) → x ix = Xfin m c ix

/-- The invariant before point `n`. -/
def PhiI (c : Dev nD) (n : ℕ) : sProp 𝕄 :=
  iprop(∃ s, ∃ x, ⌜Inv m c n s x⌝ ∗ owns (c : Thread nD τ) scM0_0 fullShare s ∗ owns (c : Thread nD τ) scM0_1 fullShare x ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, h⟩ => vO (XX m c t) (Xfin m c)
    | ⟨_ + 35, h⟩ => absurd h (Nat.not_lt.2 (Nat.le_add_left _ _))
  Φ t := PhiI m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = vO (XX m c t) (Xfin m c) := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem before0_8 (c : Dev nD) (t : Fin cfg0.N) (d) : (dats m 0 c).before 8 t d = iblk m c 8 t :=
  before0_8_of m (dats m 0 c) (A_eq m c 8) (after0_8 m c) t d
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem before0_9 (c : Dev nD) (t : Fin cfg0.N) (d) : (dats m 0 c).before 9 t d = iblk m c 9 t :=
  before0_9_of m (dats m 0 c) (A_eq m c 9) (after0_9 m c) t d
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem before0_10 (c : Dev nD) (t : Fin cfg0.N) (d) : (dats m 0 c).before 10 t d = iblk m c 10 t :=
  before0_10_of m (dats m 0 c) (A_eq m c 10) (after0_10 m c) t d
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem before0_11 (c : Dev nD) (t : Fin cfg0.N) (d) : (dats m 0 c).before 11 t d = iblk m c 11 t :=
  before0_11_of m (dats m 0 c) (A_eq m c 11) (after0_11 m c) t d
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem before0_12 (c : Dev nD) (t : Fin cfg0.N) (d) : (dats m 0 c).before 12 t d = iblk m c 12 t :=
  before0_12_of m (dats m 0 c) (A_eq m c 12) (after0_12 m c) t d
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]
theorem before0_13 (c : Dev nD) (t : Fin cfg0.N) (d) : (dats m 0 c).before 13 t d = iblk m c 13 t :=
  before0_13_of m (dats m 0 c) (A_eq m c 13) (after0_13 m c) t d
theorem leaves0_13 (c : Dev nD) (t : Fin cfg0.N) : (dats m 0 c).leavesExact 13 t = owns (c : Thread nD τ) (ms0_13 t) fullShare (iblk m c 13 t) := by
  unfold Dat.leavesExact; rw [liveAt0_13 t, after0_13]
theorem before0_14 (c : Dev nD) (t : Fin cfg0.N) (d) : (dats m 0 c).before 14 t d = iblk m c 14 t :=
  before0_14_of m (dats m 0 c) (A_eq m c 14) (after0_14 m c) t d
theorem leaves0_14 (c : Dev nD) (t : Fin cfg0.N) : (dats m 0 c).leavesExact 14 t = owns (c : Thread nD τ) (ms0_14 t) fullShare (iblk m c 14 t) := by
  unfold Dat.leavesExact; rw [liveAt0_14 t, after0_14]
theorem before0_15 (c : Dev nD) (t : Fin cfg0.N) (d) : (dats m 0 c).before 15 t d = iblk m c 15 t :=
  before0_15_of m (dats m 0 c) (A_eq m c 15) (after0_15 m c) t d
theorem leaves0_15 (c : Dev nD) (t : Fin cfg0.N) : (dats m 0 c).leavesExact 15 t = owns (c : Thread nD τ) (ms0_15 t) fullShare (iblk m c 15 t) := by
  unfold Dat.leavesExact; rw [liveAt0_15 t, after0_15]
theorem before0_16 (c : Dev nD) (t : Fin cfg0.N) (d) : (dats m 0 c).before 16 t d = iblk m c 16 t :=
  before0_16_of m (dats m 0 c) (A_eq m c 16) (after0_16 m c) t d
theorem leaves0_16 (c : Dev nD) (t : Fin cfg0.N) : (dats m 0 c).leavesExact 16 t = owns (c : Thread nD τ) (ms0_16 t) fullShare (iblk m c 16 t) := by
  unfold Dat.leavesExact; rw [liveAt0_16 t, after0_16]
theorem before0_17 (c : Dev nD) (t : Fin cfg0.N) (d) : (dats m 0 c).before 17 t d = iblk m c 17 t :=
  before0_17_of m (dats m 0 c) (A_eq m c 17) (after0_17 m c) t d
theorem leaves0_17 (c : Dev nD) (t : Fin cfg0.N) : (dats m 0 c).leavesExact 17 t = owns (c : Thread nD τ) (ms0_17 t) fullShare (iblk m c 17 t) := by
  unfold Dat.leavesExact; rw [liveAt0_17 t, after0_17]
theorem before0_18 (c : Dev nD) (t : Fin cfg0.N) (d) : (dats m 0 c).before 18 t d = iblk m c 18 t :=
  before0_18_of m (dats m 0 c) (A_eq m c 18) (after0_18 m c) t d
theorem leaves0_18 (c : Dev nD) (t : Fin cfg0.N) : (dats m 0 c).leavesExact 18 t = owns (c : Thread nD τ) (ms0_18 t) fullShare (iblk m c 18 t) := by
  unfold Dat.leavesExact; rw [liveAt0_18 t, after0_18]
theorem before0_19 (c : Dev nD) (t : Fin cfg0.N) (d) : (dats m 0 c).before 19 t d = iblk m c 19 t :=
  before0_19_of m (dats m 0 c) (A_eq m c 19) (after0_19 m c) t d
theorem leaves0_19 (c : Dev nD) (t : Fin cfg0.N) : (dats m 0 c).leavesExact 19 t = owns (c : Thread nD τ) (ms0_19 t) fullShare (iblk m c 19 t) := by
  unfold Dat.leavesExact; rw [liveAt0_19 t, after0_19]
theorem before0_20 (c : Dev nD) (t : Fin cfg0.N) (d) : (dats m 0 c).before 20 t d = iblk m c 20 t :=
  before0_20_of m (dats m 0 c) (A_eq m c 20) (after0_20 m c) t d
theorem leaves0_20 (c : Dev nD) (t : Fin cfg0.N) : (dats m 0 c).leavesExact 20 t = owns (c : Thread nD τ) (ms0_20 t) fullShare (iblk m c 20 t) := by
  unfold Dat.leavesExact; rw [liveAt0_20 t, after0_20]
theorem before0_21 (c : Dev nD) (t : Fin cfg0.N) (d) : (dats m 0 c).before 21 t d = iblk m c 21 t :=
  before0_21_of m (dats m 0 c) (A_eq m c 21) (after0_21 m c) t d
theorem leaves0_21 (c : Dev nD) (t : Fin cfg0.N) : (dats m 0 c).leavesExact 21 t = owns (c : Thread nD τ) (ms0_21 t) fullShare (iblk m c 21 t) := by
  unfold Dat.leavesExact; rw [liveAt0_21 t, after0_21]
theorem before0_22 (c : Dev nD) (t : Fin cfg0.N) (d) : (dats m 0 c).before 22 t d = iblk m c 22 t :=
  before0_22_of m (dats m 0 c) (A_eq m c 22) (after0_22 m c) t d
theorem leaves0_22 (c : Dev nD) (t : Fin cfg0.N) : (dats m 0 c).leavesExact 22 t = owns (c : Thread nD τ) (ms0_22 t) fullShare (iblk m c 22 t) := by
  unfold Dat.leavesExact; rw [liveAt0_22 t, after0_22]
theorem before0_23 (c : Dev nD) (t : Fin cfg0.N) (d) : (dats m 0 c).before 23 t d = iblk m c 23 t :=
  before0_23_of m (dats m 0 c) (A_eq m c 23) (after0_23 m c) t d
theorem leaves0_23 (c : Dev nD) (t : Fin cfg0.N) : (dats m 0 c).leavesExact 23 t = owns (c : Thread nD τ) (ms0_23 t) fullShare (iblk m c 23 t) := by
  unfold Dat.leavesExact; rw [liveAt0_23 t, after0_23]
theorem before0_24 (c : Dev nD) (t : Fin cfg0.N) (d) : (dats m 0 c).before 24 t d = iblk m c 24 t :=
  before0_24_of m (dats m 0 c) (A_eq m c 24) (after0_24 m c) t d
theorem leaves0_24 (c : Dev nD) (t : Fin cfg0.N) : (dats m 0 c).leavesExact 24 t = owns (c : Thread nD τ) (ms0_24 t) fullShare (iblk m c 24 t) := by
  unfold Dat.leavesExact; rw [liveAt0_24 t, after0_24]
theorem before0_25 (c : Dev nD) (t : Fin cfg0.N) (d) : (dats m 0 c).before 25 t d = iblk m c 25 t :=
  before0_25_of m (dats m 0 c) (A_eq m c 25) (after0_25 m c) t d
theorem leaves0_25 (c : Dev nD) (t : Fin cfg0.N) : (dats m 0 c).leavesExact 25 t = owns (c : Thread nD τ) (ms0_25 t) fullShare (iblk m c 25 t) := by
  unfold Dat.leavesExact; rw [liveAt0_25 t, after0_25]
theorem before0_26 (c : Dev nD) (t : Fin cfg0.N) (d) : (dats m 0 c).before 26 t d = iblk m c 26 t :=
  before0_26_of m (dats m 0 c) (A_eq m c 26) (after0_26 m c) t d
theorem leaves0_26 (c : Dev nD) (t : Fin cfg0.N) : (dats m 0 c).leavesExact 26 t = owns (c : Thread nD τ) (ms0_26 t) fullShare (iblk m c 26 t) := by
  unfold Dat.leavesExact; rw [liveAt0_26 t, after0_26]
theorem before0_27 (c : Dev nD) (t : Fin cfg0.N) (d) : (dats m 0 c).before 27 t d = iblk m c 27 t :=
  before0_27_of m (dats m 0 c) (A_eq m c 27) (after0_27 m c) t d
theorem leaves0_27 (c : Dev nD) (t : Fin cfg0.N) : (dats m 0 c).leavesExact 27 t = owns (c : Thread nD τ) (ms0_27 t) fullShare (iblk m c 27 t) := by
  unfold Dat.leavesExact; rw [liveAt0_27 t, after0_27]
theorem before0_28 (c : Dev nD) (t : Fin cfg0.N) (d) : (dats m 0 c).before 28 t d = iblk m c 28 t :=
  before0_28_of m (dats m 0 c) (A_eq m c 28) (after0_28 m c) t d
theorem leaves0_28 (c : Dev nD) (t : Fin cfg0.N) : (dats m 0 c).leavesExact 28 t = owns (c : Thread nD τ) (ms0_28 t) fullShare (iblk m c 28 t) := by
  unfold Dat.leavesExact; rw [liveAt0_28 t, after0_28]
theorem before0_29 (c : Dev nD) (t : Fin cfg0.N) (d) : (dats m 0 c).before 29 t d = iblk m c 29 t :=
  before0_29_of m (dats m 0 c) (A_eq m c 29) (after0_29 m c) t d
theorem leaves0_29 (c : Dev nD) (t : Fin cfg0.N) : (dats m 0 c).leavesExact 29 t = owns (c : Thread nD τ) (ms0_29 t) fullShare (iblk m c 29 t) := by
  unfold Dat.leavesExact; rw [liveAt0_29 t, after0_29]
theorem before0_30 (c : Dev nD) (t : Fin cfg0.N) (d) : (dats m 0 c).before 30 t d = iblk m c 30 t :=
  before0_30_of m (dats m 0 c) (A_eq m c 30) (after0_30 m c) t d
theorem leaves0_30 (c : Dev nD) (t : Fin cfg0.N) : (dats m 0 c).leavesExact 30 t = owns (c : Thread nD τ) (ms0_30 t) fullShare (iblk m c 30 t) := by
  unfold Dat.leavesExact; rw [liveAt0_30 t, after0_30]
theorem before0_31 (c : Dev nD) (t : Fin cfg0.N) (d) : (dats m 0 c).before 31 t d = iblk m c 31 t :=
  before0_31_of m (dats m 0 c) (A_eq m c 31) (after0_31 m c) t d
theorem leaves0_31 (c : Dev nD) (t : Fin cfg0.N) : (dats m 0 c).leavesExact 31 t = owns (c : Thread nD τ) (ms0_31 t) fullShare (iblk m c 31 t) := by
  unfold Dat.leavesExact; rw [liveAt0_31 t, after0_31]
theorem before0_32 (c : Dev nD) (t : Fin cfg0.N) (d) : (dats m 0 c).before 32 t d = iblk m c 32 t :=
  before0_32_of m (dats m 0 c) (A_eq m c 32) (after0_32 m c) t d
theorem leaves0_32 (c : Dev nD) (t : Fin cfg0.N) : (dats m 0 c).leavesExact 32 t = owns (c : Thread nD τ) (ms0_32 t) fullShare (iblk m c 32 t) := by
  unfold Dat.leavesExact; rw [liveAt0_32 t, after0_32]
theorem before0_33 (c : Dev nD) (t : Fin cfg0.N) (d) : (dats m 0 c).before 33 t d = iblk m c 33 t :=
  before0_33_of m (dats m 0 c) (A_eq m c 33) (after0_33 m c) t d
theorem leaves0_33 (c : Dev nD) (t : Fin cfg0.N) : (dats m 0 c).leavesExact 33 t = owns (c : Thread nD τ) (ms0_33 t) fullShare (iblk m c 33 t) := by
  unfold Dat.leavesExact; rw [liveAt0_33 t, after0_33]

/-- The output's buffer as the body finds it, -/
def Pre34 (c : Dev nD) (t : Fin cfg0.N) : sProp 𝕄 :=
  iprop(∃ d, owns (c : Thread nD τ) (ms0_34 t) fullShare ((dats m 0 c).before 34 t d))
/-- and as it leaves it. -/
def Post34 (c : Dev nD) (t : Fin cfg0.N) : sProp 𝕄 := (dats m 0 c).leavesExact 34 t

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ Pre34 m c t)

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t
    ∗ Post34 m c t)

/-- A front conjunct `X` carried past one conjunct, -/
theorem carry_in {X P P' T T' : sProp 𝕄} (h1 : P ⊢ P') (h : X ∗ T ⊢ T') : X ∗ P ∗ T ⊢ P' ∗ T' := by
  iintro ⟨HX, HP, HT⟩
  isplitl [HP]
  · iapply h1; iexact HP
  · iapply h; isplitl [HX]; · iexact HX
    iexact HT
/-- and back. -/
theorem carry_out {X P P' T T' : sProp 𝕄} (h1 : P' ⊢ P) (h : T' ⊢ X ∗ T) : P' ∗ T' ⊢ X ∗ P ∗ T := by
  iintro ⟨HP, HT⟩
  ihave H := h $$ HT
  icases H with ⟨HX, HT⟩
  isplitl [HX]; · iexact HX
  isplitl [HP]
  · iapply h1; iexact HP
  iexact HT

/-- The buffers the body is called with, the input blocks named. -/
theorem pre_ins (c : Dev nD) (t : Fin cfg0.N) (T : sProp 𝕄)
    (h : iprop((dats m 0 c).Φ t.castSucc ∗ (dats m 0 c).owesAt () t.castSucc) ∗ Pre34 m c t ⊢ T) :
    bodyPre m c t ⊢ Ins c (At t) (XX m c t) T := by
  unfold bodyPre Ins
  refine Laws.sep_assoc.2.trans ?_
  refine carry_in (by iintro ⟨%d, H⟩; rw [before0_0 m c t d]; iexact H) ?_
  refine carry_in (by iintro ⟨%d, H⟩; rw [before0_1 m c t d]; iexact H) ?_
  refine carry_in (by iintro ⟨%d, H⟩; rw [before0_2 m c t d]; iexact H) ?_
  refine carry_in (by iintro ⟨%d, H⟩; rw [before0_3 m c t d]; iexact H) ?_
  refine carry_in (by iintro ⟨%d, H⟩; rw [before0_4 m c t d]; iexact H) ?_
  refine carry_in (by iintro ⟨%d, H⟩; rw [before0_5 m c t d]; iexact H) ?_
  refine carry_in (by iintro ⟨%d, H⟩; rw [before0_6 m c t d]; iexact H) ?_
  refine carry_in (by iintro ⟨%d, H⟩; rw [before0_7 m c t d]; iexact H) ?_
  refine carry_in (by iintro ⟨%d, H⟩; rw [before0_8 m c t d]; iexact H) ?_
  refine carry_in (by iintro ⟨%d, H⟩; rw [before0_9 m c t d]; iexact H) ?_
  refine carry_in (by iintro ⟨%d, H⟩; rw [before0_10 m c t d]; iexact H) ?_
  refine carry_in (by iintro ⟨%d, H⟩; rw [before0_11 m c t d]; iexact H) ?_
  refine carry_in (by iintro ⟨%d, H⟩; rw [before0_12 m c t d]; iexact H) ?_
  refine carry_in (by iintro ⟨%d, H⟩; rw [before0_13 m c t d]; iexact H) ?_
  refine carry_in (by iintro ⟨%d, H⟩; rw [before0_14 m c t d]; iexact H) ?_
  refine carry_in (by iintro ⟨%d, H⟩; rw [before0_15 m c t d]; iexact H) ?_
  refine carry_in (by iintro ⟨%d, H⟩; rw [before0_16 m c t d]; iexact H) ?_
  refine carry_in (by iintro ⟨%d, H⟩; rw [before0_17 m c t d]; iexact H) ?_
  refine carry_in (by iintro ⟨%d, H⟩; rw [before0_18 m c t d]; iexact H) ?_
  refine carry_in (by iintro ⟨%d, H⟩; rw [before0_19 m c t d]; iexact H) ?_
  refine carry_in (by iintro ⟨%d, H⟩; rw [before0_20 m c t d]; iexact H) ?_
  refine carry_in (by iintro ⟨%d, H⟩; rw [before0_21 m c t d]; iexact H) ?_
  refine carry_in (by iintro ⟨%d, H⟩; rw [before0_22 m c t d]; iexact H) ?_
  refine carry_in (by iintro ⟨%d, H⟩; rw [before0_23 m c t d]; iexact H) ?_
  refine carry_in (by iintro ⟨%d, H⟩; rw [before0_24 m c t d]; iexact H) ?_
  refine carry_in (by iintro ⟨%d, H⟩; rw [before0_25 m c t d]; iexact H) ?_
  refine carry_in (by iintro ⟨%d, H⟩; rw [before0_26 m c t d]; iexact H) ?_
  refine carry_in (by iintro ⟨%d, H⟩; rw [before0_27 m c t d]; iexact H) ?_
  refine carry_in (by iintro ⟨%d, H⟩; rw [before0_28 m c t d]; iexact H) ?_
  refine carry_in (by iintro ⟨%d, H⟩; rw [before0_29 m c t d]; iexact H) ?_
  refine carry_in (by iintro ⟨%d, H⟩; rw [before0_30 m c t d]; iexact H) ?_
  refine carry_in (by iintro ⟨%d, H⟩; rw [before0_31 m c t d]; iexact H) ?_
  refine carry_in (by iintro ⟨%d, H⟩; rw [before0_32 m c t d]; iexact H) ?_
  refine carry_in (by iintro ⟨%d, H⟩; rw [before0_33 m c t d]; iexact H) ?_
  exact h

theorem ins_post (c : Dev nD) (t : Fin cfg0.N) (T : sProp 𝕄)
    (h : T ⊢ iprop((dats m 0 c).Φ t.succ ∗ (dats m 0 c).owesAt () t.succ) ∗ Post34 m c t) :
    Ins c (At t) (XX m c t) T ⊢ bodyPost m c t := by
  unfold bodyPost Ins
  refine Entails.trans ?_ Laws.sep_assoc.1
  refine carry_out (by rw [leaves0_0 m c t]) ?_
  refine carry_out (by rw [leaves0_1 m c t]) ?_
  refine carry_out (by rw [leaves0_2 m c t]) ?_
  refine carry_out (by rw [leaves0_3 m c t]) ?_
  refine carry_out (by rw [leaves0_4 m c t]) ?_
  refine carry_out (by rw [leaves0_5 m c t]) ?_
  refine carry_out (by rw [leaves0_6 m c t]) ?_
  refine carry_out (by rw [leaves0_7 m c t]) ?_
  refine carry_out (by rw [leaves0_8 m c t]) ?_
  refine carry_out (by rw [leaves0_9 m c t]) ?_
  refine carry_out (by rw [leaves0_10 m c t]) ?_
  refine carry_out (by rw [leaves0_11 m c t]) ?_
  refine carry_out (by rw [leaves0_12 m c t]) ?_
  refine carry_out (by rw [leaves0_13 m c t]) ?_
  refine carry_out (by rw [leaves0_14 m c t]) ?_
  refine carry_out (by rw [leaves0_15 m c t]) ?_
  refine carry_out (by rw [leaves0_16 m c t]) ?_
  refine carry_out (by rw [leaves0_17 m c t]) ?_
  refine carry_out (by rw [leaves0_18 m c t]) ?_
  refine carry_out (by rw [leaves0_19 m c t]) ?_
  refine carry_out (by rw [leaves0_20 m c t]) ?_
  refine carry_out (by rw [leaves0_21 m c t]) ?_
  refine carry_out (by rw [leaves0_22 m c t]) ?_
  refine carry_out (by rw [leaves0_23 m c t]) ?_
  refine carry_out (by rw [leaves0_24 m c t]) ?_
  refine carry_out (by rw [leaves0_25 m c t]) ?_
  refine carry_out (by rw [leaves0_26 m c t]) ?_
  refine carry_out (by rw [leaves0_27 m c t]) ?_
  refine carry_out (by rw [leaves0_28 m c t]) ?_
  refine carry_out (by rw [leaves0_29 m c t]) ?_
  refine carry_out (by rw [leaves0_30 m c t]) ?_
  refine carry_out (by rw [leaves0_31 m c t]) ?_
  refine carry_out (by rw [leaves0_32 m c t]) ?_
  refine carry_out (by rw [leaves0_33 m c t]) ?_
  exact h

/-- The part of the state the body does not touch. -/
@[reducible] def Rr (c : Dev nD) (t : Fin cfg0.N) : sProp 𝕄 := iprop((∃ r, prngReg c r) ∗ (dats m 0 c).owesAt () t.castSucc)

/-- The state beside the inputs, the contents of the scratch buffers and of the output named. -/
theorem pre_tail (c : Dev nD) (t : Fin cfg0.N) :
    iprop((dats m 0 c).Φ t.castSucc ∗ (dats m 0 c).owesAt () t.castSucc) ∗ Pre34 m c t
      ⊢ iprop(∃ s, ∃ x, ∃ d, ⌜Inv m c t.val s x⌝ ∗ owns (c : Thread nD τ) (ms0_34 t) fullShare ((dats m 0 c).before 34 t d)
          ∗ owns (c : Thread nD τ) scM0_0 fullShare s ∗ owns (c : Thread nD τ) scM0_1 fullShare x ∗ Rr m c t) := by
  rw [show (dats m 0 c).Φ t.castSucc = PhiI m c t.val from rfl]
  unfold PhiI Pre34 Rr
  iintro ⟨⟨⟨%s, %x, %hI, Hs, Hx, Hg⟩, Ho⟩, ⟨%d, Hd⟩⟩
  iexists s; iexists x; iexists d
  isplitr; · ipureintro; exact hI
  isplitl [Hd]; · iexact Hd
  isplitl [Hs]; · iexact Hs
  isplitl [Hx]; · iexact Hx
  isplitl [Hg]; · iexact Hg
  iexact Ho

theorem post_tail (c : Dev nD) (t : Fin cfg0.N) (s : Vec F S40x128 .f32) (x : Vec F S80x4096 .f32) (o : Vec F S2x4096 .f32)
    (hI : Inv m c (t.val + 1) s x) (ho : owns (c : Thread nD τ) (ms0_34 t) fullShare o ⊢ Post34 m c t) :
    iprop(owns (c : Thread nD τ) (ms0_34 t) fullShare o ∗ owns (c : Thread nD τ) scM0_0 fullShare s ∗ owns (c : Thread nD τ) scM0_1 fullShare x ∗ Rr m c t)
      ⊢ iprop((dats m 0 c).Φ t.succ ∗ (dats m 0 c).owesAt () t.succ) ∗ Post34 m c t := by
  rw [show (dats m 0 c).Φ t.succ = PhiI m c (t.val + 1) from rfl, show (dats m 0 c).owesAt () t.succ = (dats m 0 c).owesAt () t.castSucc from rfl]
  unfold PhiI Rr
  iintro ⟨Hd, Hs, Hx, Hg, Ho⟩
  isplitr [Hd]
  · isplitr [Ho]
    · iexists s; iexists x
      isplitr; · ipureintro; exact hI
      isplitl [Hs]; · iexact Hs
      isplitl [Hx]; · iexact Hx
      iexact Hg
    iexact Ho
  iapply ho; iexact Hd

/-- Existentials in the tail of the state come out in front. -/
theorem pull_ex {α : Type} {T : α → sProp 𝕄} {P X : sProp 𝕄} (h : X ⊢ iprop(∃ a, T a)) : P ∗ X ⊢ iprop(∃ a, P ∗ T a) := by
  iintro ⟨HP, HX⟩
  ihave H := h $$ HX
  icases H with ⟨%a, HT⟩
  iexists a; isplitl [HP]; · iexact HP
  iexact HT

theorem ins_ex {α : Type} (c : Dev nD) (A : Ar) (X : Xs F) {T : sProp 𝕄} {G : α → sProp 𝕄} (h : T ⊢ iprop(∃ a, G a)) :
    Ins c A X T ⊢ iprop(∃ a, Ins c A X (G a)) := by
  unfold Ins
  iterate 34 refine pull_ex ?_
  exact h

theorem idle34 (t : Fin cfg0.N) : cfg0.idle 34 (grid0.coords t) = !(k0_cond4 (grid0.coords t) == 1#1) := rfl

theorem post34_keep (c : Dev nD) (t : Fin cfg0.N) (h : ¬ k0_cond4 (grid0.coords t) = 1#1) (d) :
    owns (c : Thread nD τ) (ms0_34 t) fullShare ((dats m 0 c).before 34 t d) ⊢ Post34 m c t := by
  unfold Post34
  have hN : t.val < 64 := Nat.lt_of_lt_of_eq t.isLt N_0
  rw [Dat.leavesExact_idle _ _ _ (by rw [idle34]; simp [h]) (by
    have h63 : ¬ t.val % 64 = 63 := fun h' => h ((hcond0_3 t).mpr h')
    cases hf : (cfg0.win 34).flush t
    · rfl
    · exact absurd ((flush0_34 t).mp hf) h63)]
  iintro H; iexists d; iexact H

theorem post34_last (c : Dev nD) (t : Fin cfg0.N) (h : k0_cond4 (grid0.coords t) = 1#1) :
    owns (c : Thread nD τ) (ms0_34 t) fullShare (vO (XX m c t) (Xfin m c)) ⊢ Post34 m c t := by
  unfold Post34 Dat.leavesExact
  rw [show cfg0.idle 34 (grid0.coords t) = false by rw [idle34]; simp [h], after0_34]

theorem coord1 (t : Fin cfg0.N) : (grid0.coords t 1).val = t.val % 32 := by
  have e1 : (grid0.coords t 1).val = t.val / 1 % 32 := Pipeline.Grid.coords_val t 1 (by decide) rfl
  rw [e1, Nat.div_one]

/-- One more block's columns are in place. -/
theorem stX_good (c : Dev nD) (t : Fin cfg0.N) (h3 : k0_cond3 (grid0.coords t) = 1#1) (x : Vec F S80x4096 .f32)
    (hx : ∀ ix : S80x4096.Idx, (ix 1).val < 128 * (t.val - 32) → x ix = Xfin m c ix) (ix : S80x4096.Idx)
    (hix : (ix 1).val < 128 * (t.val + 1 - 32)) :
    stX (grid0.coords t) h3 (XX m c t) (sAt m c 32) x ix = Xfin m c ix := by
  have hN : t.val < 64 := Nat.lt_of_lt_of_eq t.isLt N_0
  have h32 : 32 ≤ t.val := (hcond0_2 t).mp h3
  have hoff : k0_off1 (grid0.coords t) = ![0, 128 * (t.val % 32)] := by rw [k0_off1_eq, coord1]
  have htm : t.val % 32 = t.val - 32 := by omega
  unfold stX
  by_cases hlt : (ix 1).val < 128 * (t.val - 32)
  · rw [Rect.overlay_of_not_mem]
    · exact hx ix hlt
    · intro hmem
      have hj' := (Rect.mem_set_unit.mp hmem 1).1
      have h0 : (k0_off1 (grid0.coords t)) 1 = 128 * (t.val % 32) := by rw [hoff]; rfl
      omega
  · have hd : (ix 1).val / 128 = t.val - 32 := by omega
    have e : ix = (Rect.unit (s := S80x4096) (k0_off1 (grid0.coords t)) S80x128.size (k0_off1_inb _ h3)).emb
        (ix2 (ix 0) ⟨(ix 1).val % 128, Nat.mod_lt _ (by decide)⟩) := by
      funext a
      apply Fin.ext
      rw [Rect.emb_apply]
      simp only [Rect.unit]
      rw [hoff]
      fin_cases a
      · simp
      · simp; omega
    have hp : pt (32 + (ix 1).val / 128) = t := by
      rw [hd, show 32 + (t.val - 32) = t.val by omega, pt_val]
    conv_lhs => rw [e]
    rw [Rect.overlay_emb]
    unfold Xfin
    rw [hp]

theorem ins_pull (c : Dev nD) (A : Ar) (X : Xs F) {α β γ : Type} (φ : α → β → Prop)
    (G : α → β → γ → sProp 𝕄) (U : sProp 𝕄)
    (h : ∀ a b d, φ a b → Ins c A X (G a b d) ⊢ U) :
    Ins c A X iprop(∃ a, ∃ b, ∃ d, ⌜φ a b⌝ ∗ G a b d) ⊢ U := by
  refine (ins_ex c A X (G := fun p : {p : α × β × γ // φ p.1 p.2.1} => G p.1.1 p.1.2.1 p.1.2.2) ?_).trans ?_
  · iintro ⟨%a, %b, %d, %hφ, H⟩
    iexists ⟨(a, b, d), hφ⟩; iexact H
  · iintro ⟨%p, H⟩
    iapply (h p.1.1 p.1.2.1 p.1.2.2 p.2); iexact H

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  suffices H : ∀ s x d, Inv m c t.val s x → St c (At t) (XX m c t) s x ((dats m 0 c).before 34 t d) (Rr m c t)
      ⊢ wp frame (wpE (defs₀ (F := F)) Variants.none c none) Set.univ (bodyAt0 t) (fun _ => bodyPost m c t) by
    refine (pre_ins m c t _ (pre_tail m c t)).trans ?_
    exact ins_pull c (At t) (XX m c t) (fun s x => Inv m c t.val s x) _ _ (fun s x d => H s x d)
  intro s x d hI
  have hk : ∀ s' x', Inv m c (t.val + 1) s' x' → ¬ k0_cond4 (grid0.coords t) = 1#1 →
      St c (At t) (XX m c t) s' x' ((dats m 0 c).before 34 t d) (Rr m c t) ⊢ bodyPost m c t := fun s' x' hI' hO =>
    ins_post m c t _ (post_tail m c t s' x' _ hI' (post34_keep m c t hO d))
  by_cases h0 : t.val % 64 = 0
  · have hO : ¬ k0_cond4 (grid0.coords t) = 1#1 := fun h => by have := (hcond0_3 t).mp h; omega
    refine body_A c (grid0.coords t) (At t) (XX m c t) s x _ (Rr m c t) ((hcond0_0 t).mpr h0) ((hcond0_1 t).mpr (by omega))
      (fun h => by have := (hcond0_2 t).mp h; omega) hO _ (hk _ _ ?_ hO)
    intro _
    have ht : t.val = 0 := by omega
    refine ⟨?_, fun ix h => absurd h (by omega)⟩
    have e : sAt m c (t.val + 1) = st1 (XX m c (pt t.val)) (sAt m c t.val) := if_pos (by omega)
    rw [e, pt_val, ht]; rfl
  by_cases h1 : t.val < 32
  · have hO : ¬ k0_cond4 (grid0.coords t) = 1#1 := fun h => by have := (hcond0_3 t).mp h; omega
    refine body_B c (grid0.coords t) (At t) (XX m c t) s x _ (Rr m c t) (fun h => h0 ((hcond0_0 t).mp h)) ((hcond0_1 t).mpr h1)
      (fun h => by have := (hcond0_2 t).mp h; omega) hO _ (hk _ _ ?_ hO)
    intro _
    obtain ⟨hs, -⟩ := hI (by omega)
    refine ⟨?_, fun ix h => absurd h (by omega)⟩
    have e : sAt m c (t.val + 1) = st1 (XX m c (pt t.val)) (sAt m c t.val) := if_pos h1
    rw [e, pt_val, hs]
  have hX : k0_cond3 (grid0.coords t) = 1#1 := (hcond0_2 t).mpr (by omega)
  have hs32 : ∀ n, sAt m c (32 + n) = sAt m c 32 := by
    intro n
    induction n with
    | zero => rfl
    | succ n ih =>
      rw [← ih]
      exact if_neg (show ¬ 32 + n < 32 by omega)
  obtain ⟨hs, hx⟩ := hI (by omega)
  have hs' : s = sAt m c 32 := by rw [hs, show t.val = 32 + (t.val - 32) by omega, hs32]
  subst hs'
  have hI' : Inv m c (t.val + 1) (sAt m c 32) (stX (grid0.coords t) hX (XX m c t) (sAt m c 32) x) := fun _ =>
    ⟨by rw [show t.val + 1 = 32 + (t.val + 1 - 32) by omega, hs32], stX_good m c t hX x hx⟩
  by_cases h3 : t.val % 64 = 63
  · have hO : k0_cond4 (grid0.coords t) = 1#1 := (hcond0_3 t).mpr h3
    refine body_D c (grid0.coords t) (At t) (XX m c t) _ x _ (Rr m c t) (fun h => h0 ((hcond0_0 t).mp h)) (fun h => h1 ((hcond0_1 t).mp h))
      hX hO _ ?_
    have hxx : stX (grid0.coords t) hX (XX m c t) (sAt m c 32) x = Xfin m c :=
      funext fun ix => stX_good m c t hX x hx ix (by have := (ix 1).isLt; change _ < 4096 at this; omega)
    refine ins_post m c t _ (post_tail m c t _ _ _ hI' ?_)
    rw [hxx]
    exact post34_last m c t hO
  · have hO : ¬ k0_cond4 (grid0.coords t) = 1#1 := fun h => h3 ((hcond0_3 t).mp h)
    exact body_C c (grid0.coords t) (At t) (XX m c t) _ x _ (Rr m c t) (fun h => h0 ((hcond0_0 t).mp h)) (fun h => h1 ((hcond0_1 t).mp h))
      hX hO _ (hk _ _ hI' hO)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiI m c 0 from rfl, PhiA0_eq]
  unfold PhiI
  iintro ⟨⟨⟨%s, Hs⟩, ⟨%x, Hx⟩⟩, Hg⟩
  iexists s; iexists x
  isplitr; · ipureintro; exact fun h => absurd rfl h
  isplitl [Hs]; · iexact Hs
  isplitl [Hx]; · iexact Hx
  iexact Hg

theorem hout (c : Dev nD) : (dats m 0 c).Φ (Fin.last cfg0.N) ⊢ Pipeline.ΦA spec0 c := by
  rw [show (dats m 0 c).Φ (Fin.last cfg0.N) = PhiI m c cfg0.N from rfl, PhiA0_eq]
  unfold PhiI
  iintro ⟨%s, %x, -, Hs, Hx, Hg⟩
  isplitr [Hg]
  · isplitl [Hs]
    · iexists s; iexact Hs
    · iexists x; iexact Hx
  iexact Hg

set_option backward.isDefEq.respectTransparency.types false in
set_option maxHeartbeats 800000 in
/-- The run: every array as the proof data says, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Hand
-- ==== Proof.K.Maths.lean ====
module

public import Idealize.ShloMosaic.Lib.Pointwise
public import Mathlib.Tactic.Ring
public import Mathlib.Tactic.NormNum
public import Mathlib.Tactic.FieldSimp
public import Mathlib.Tactic.Positivity
public import Mathlib.Tactic.Linarith

@[expose] public section

noncomputable section

/-! The network over the real numbers, and the laws of extended reals that carry a finite value there. -/

namespace Cert.Din

open Idealize.ShloMosaic

/-- The small number added to a variance. -/
def eps : ℝ := (Ideal.ofBits .f32 0x322BCC77#32).toReal

theorem ofBits_eps_aux : ∃ e : ℝ, 0 < e ∧ Ideal.ofBits .f32 0x322BCC77#32 = (e : EReal) := by
  refine ⟨11258999 * (2 : ℝ) ^ (-50 : ℤ), by positivity, ?_⟩
  simp [Ideal.ofBits, Ideal.ieee, -EReal.coe_mul]

theorem ofBits_eps : Ideal.ofBits .f32 0x322BCC77#32 = (eps : EReal) := by
  obtain ⟨e, _, h⟩ := ofBits_eps_aux
  rw [eps, h, EReal.toReal_coe]

theorem eps_pos : 0 < eps := by
  obtain ⟨e, he, h⟩ := ofBits_eps_aux
  rw [eps, h, EReal.toReal_coe]; exact he

theorem ofBits_rows : Ideal.ofBits .f32 0x49480000#32 = ((819200 : ℝ) : EReal) := by
  simp [Ideal.ofBits, Ideal.ieee, -EReal.coe_mul]; norm_num

theorem ofBits_batch : Ideal.ofBits .f32 0x45800000#32 = ((4096 : ℝ) : EReal) := by
  simp [Ideal.ofBits, Ideal.ieee, -EReal.coe_mul]; norm_num

theorem coe_sum {ι : Type} [Fintype ι] (f : ι → ℝ) : ∑ i, (f i : EReal) = ((∑ i, f i : ℝ) : EReal) := by
  classical
  have h : ∀ s : Finset ι, ∑ i ∈ s, (f i : EReal) = ((∑ i ∈ s, f i : ℝ) : EReal) := by
    intro s
    induction s using Finset.induction_on with
    | empty => simp
    | insert a s ha ih => rw [Finset.sum_insert ha, Finset.sum_insert ha, ih, EReal.coe_add]
  exact h _

theorem div_coe (a c : ℝ) (hc : c ≠ 0) : Ideal.div (a : EReal) (c : EReal) = ((a / c : ℝ) : EReal) := by
  rw [Ideal.div, if_neg (by exact_mod_cast hc), ← EReal.coe_inv, ← EReal.coe_mul, div_eq_mul_inv]

/-- The activation of one value, from the mean and variance of its channel. -/
def dice (x μ v α : ℝ) : ℝ := x * (α + (1 - α) * (1 + Real.exp (-((x - μ) * (Real.sqrt (v + eps))⁻¹)))⁻¹)

theorem dice_gate (x μ v α : ℝ) (hv : 0 ≤ v) :
    (x : EReal) * ((α : EReal) + (1 - (α : EReal)) * Ideal.logistic (((x : EReal) - (μ : EReal)) * Ideal.rsqrt ((v : EReal) + Ideal.ofBits .f32 0x322BCC77#32)))
      = ((dice x μ v α : ℝ) : EReal) := by
  have h0 : 0 < v + eps := add_pos_of_nonneg_of_pos hv eps_pos
  rw [ofBits_eps, ← EReal.coe_add, Ideal.rsqrt_coe, if_neg (not_lt.2 h0.le), if_neg h0.ne', ← EReal.coe_sub, ← EReal.coe_mul,
    Ideal.logistic_coe, ← EReal.coe_one, ← EReal.coe_sub, ← EReal.coe_mul, ← EReal.coe_add, ← EReal.coe_mul, dice]

theorem dice_mix (x μ v α : ℝ) (hv : 0 ≤ v) (p : EReal)
    (hp : p = Ideal.div 1 (1 + Ideal.exp (-(Ideal.div ((x : EReal) - (μ : EReal)) (Ideal.sqrt ((v : EReal) + Ideal.ofBits .f32 0x322BCC77#32)))))) :
    p * (x : EReal) + (1 - p) * (α : EReal) * (x : EReal) = ((dice x μ v α : ℝ) : EReal) := by
  have h0 : 0 < v + eps := add_pos_of_nonneg_of_pos hv eps_pos
  have hs : Real.sqrt (v + eps) ≠ 0 := (Real.sqrt_pos.2 h0).ne'
  have h1 : (1 + Real.exp (-((x - μ) / Real.sqrt (v + eps)))) ≠ 0 := by positivity
  rw [ofBits_eps, ← EReal.coe_add, Ideal.sqrt_coe, if_neg (not_lt.2 h0.le), ← EReal.coe_sub, div_coe _ _ hs, ← EReal.coe_neg,
    Ideal.exp_coe, ← EReal.coe_one, ← EReal.coe_add, div_coe _ _ h1] at hp
  rw [hp, ← EReal.coe_one, ← EReal.coe_sub, ← EReal.coe_mul, ← EReal.coe_mul, ← EReal.coe_mul, ← EReal.coe_add, dice]
  congr 1
  rw [← div_eq_mul_inv (x - μ)]
  field_simp
  ring

/-! ## The network -/

/-- What the network reads, looked up: the behaviours, the advert, the user and the context, and the weights. -/
structure Args where
  E : Fin 4096 → Fin 200 → Fin 24 → ℝ
  Q : Fin 4096 → Fin 24 → ℝ
  U : Fin 4096 → Fin 16 → ℝ
  C : Fin 4096 → Fin 16 → ℝ
  W : Fin 96 → Fin 36 → ℝ
  bu : Fin 36 → ℝ
  au : Fin 36 → ℝ
  Wu : Fin 36 → ℝ
  cu : ℝ
  W1 : Fin 80 → Fin 200 → ℝ
  b1 : Fin 200 → ℝ
  a1 : Fin 200 → ℝ
  W2 : Fin 200 → Fin 80 → ℝ
  b2 : Fin 80 → ℝ
  a2 : Fin 80 → ℝ
  W3 : Fin 80 → Fin 2 → EReal
  b3 : Fin 2 → EReal

namespace Args

variable (A : Args)

/-- The four features of one behaviour against the advert, in the order they are laid side by side. -/
def feat (b : Fin 4096) (t : Fin 200) (k : Fin 96) : ℝ :=
  if h : k.val < 24 then A.E b t ⟨k.val, h⟩
  else if h1 : k.val - 24 < 24 then A.Q b ⟨k.val - 24, h1⟩
  else if h2 : k.val - 24 - 24 < 24 then A.E b t ⟨k.val - 24 - 24, h2⟩ - A.Q b ⟨k.val - 24 - 24, h2⟩
  else A.E b t ⟨k.val - 24 - 24 - 24, by omega⟩ * A.Q b ⟨k.val - 24 - 24 - 24, by omega⟩

/-- The activation unit's hidden values before the activation. -/
def act (b : Fin 4096) (t : Fin 200) (j : Fin 36) : ℝ := ∑ k, A.feat b t k * A.W k j + A.bu j

def actMean (j : Fin 36) : ℝ := (∑ b, ∑ t, A.act b t j) / 819200

def actVar (j : Fin 36) : ℝ := (∑ b, ∑ t, (A.act b t j - A.actMean j) * (A.act b t j - A.actMean j)) / 819200

def score (b : Fin 4096) (t : Fin 200) : ℝ := ∑ j, dice (A.act b t j) (A.actMean j) (A.actVar j) (A.au j) * A.Wu j + A.cu

def pooled (b : Fin 4096) (d : Fin 24) : ℝ := ∑ t, A.E b t d * A.score b t

/-- The row the dense layers read. -/
def row (b : Fin 4096) (k : Fin 80) : ℝ :=
  if h : k.val < 16 then A.U b ⟨k.val, h⟩
  else if h1 : k.val - 16 < 24 then A.pooled b ⟨k.val - 16, h1⟩
  else if h2 : k.val - 16 - 24 < 24 then A.Q b ⟨k.val - 16 - 24, h2⟩
  else A.C b ⟨k.val - 16 - 24 - 24, by omega⟩

/-- The mean of a channel over the batch. -/
def mean (h : Fin 4096 → ℝ) : ℝ := (∑ b, h b) / 4096

def var (h : Fin 4096 → ℝ) : ℝ := (∑ b, (h b - mean h) * (h b - mean h)) / 4096

def h1 (b : Fin 4096) (j : Fin 200) : ℝ := ∑ k, A.row b k * A.W1 k j + A.b1 j

def d1 (b : Fin 4096) (j : Fin 200) : ℝ := dice (A.h1 b j) (mean fun b => A.h1 b j) (var fun b => A.h1 b j) (A.a1 j)

def h2 (b : Fin 4096) (j : Fin 80) : ℝ := ∑ k, A.d1 b k * A.W2 k j + A.b2 j

def d2 (b : Fin 4096) (j : Fin 80) : ℝ := dice (A.h2 b j) (mean fun b => A.h2 b j) (var fun b => A.h2 b j) (A.a2 j)

/-- The network's result. -/
def out (b : Fin 4096) (o : Fin 2) : EReal := ∑ k, (A.d2 b k : EReal) * A.W3 k o + A.b3 o

theorem actVar_nonneg (j : Fin 36) : 0 ≤ A.actVar j :=
  div_nonneg (Finset.sum_nonneg fun _ _ => Finset.sum_nonneg fun _ _ => mul_self_nonneg _) (by norm_num)

theorem var_nonneg (h : Fin 4096 → ℝ) : 0 ≤ var h :=
  div_nonneg (Finset.sum_nonneg fun _ _ => mul_self_nonneg _) (by norm_num)

/-- The variance as the mean square less the square of the mean. -/
theorem actVar_eq (j : Fin 36) :
    A.actVar j = (∑ b, ∑ t, A.act b t j * A.act b t j) / 819200 - A.actMean j * A.actMean j := by
  have h : ∑ b : Fin 4096, ∑ t : Fin 200, A.act b t j = 819200 * A.actMean j := by rw [actMean]; ring
  have e : ∀ b t, (A.act b t j - A.actMean j) * (A.act b t j - A.actMean j)
      = A.act b t j * A.act b t j - 2 * A.actMean j * A.act b t j + A.actMean j * A.actMean j := fun b t => by ring
  rw [actVar]
  simp only [e, Finset.sum_add_distrib, Finset.sum_sub_distrib, ← Finset.mul_sum, h, Finset.sum_const, Finset.card_univ, Fintype.card_fin]
  simp only [nsmul_eq_mul]
  push_cast
  ring

/-- A sum over the ninety-six features, by the four parts. -/
theorem sum_feat (g : Fin 96 → ℝ) (b : Fin 4096) (t : Fin 200) :
    ∑ k, A.feat b t k * g k = ∑ d : Fin 24, (A.E b t d * g ⟨d.val, by omega⟩ + A.Q b d * g ⟨24 + d.val, by omega⟩
      + (A.E b t d - A.Q b d) * g ⟨48 + d.val, by omega⟩ + A.E b t d * A.Q b d * g ⟨72 + d.val, by omega⟩) := by
  have e : ∀ f : Fin (24 + (24 + (24 + 24))) → ℝ, ∑ k, f k
      = ∑ d : Fin 24, (f ⟨d.val, by omega⟩ + f ⟨24 + d.val, by omega⟩ + f ⟨48 + d.val, by omega⟩ + f ⟨72 + d.val, by omega⟩) := by
    intro f
    rw [Fin.sum_univ_add, Fin.sum_univ_add, Fin.sum_univ_add]
    simp only [Finset.sum_add_distrib]
    simp only [← add_assoc]
    congr 1
  refine (e _).trans (Finset.sum_congr rfl fun d _ => ?_)
  have h1 : ¬ 24 + d.val < 24 := by omega
  have h2 : ¬ 48 + d.val < 24 := by omega
  have h3 : ¬ 72 + d.val < 24 := by omega
  have h4 : 24 + d.val - 24 < 24 := by omega
  have h5 : ¬ 48 + d.val - 24 < 24 := by omega
  have h6 : ¬ 72 + d.val - 24 < 24 := by omega
  have h7 : 48 + d.val - 24 - 24 < 24 := by omega
  have h8 : ¬ 72 + d.val - 24 - 24 < 24 := by omega
  have i1 : (⟨24 + d.val - 24, h4⟩ : Fin 24) = d := Fin.ext (by simp)
  have i2 : (⟨48 + d.val - 24 - 24, h7⟩ : Fin 24) = d := Fin.ext (by simp; omega)
  have i3 : (⟨72 + d.val - 24 - 24 - 24, by omega⟩ : Fin 24) = d := Fin.ext (by simp; omega)
  simp only [feat, d.isLt, h1, h2, h3, h4, h5, h6, h7, h8, dif_pos, dif_neg, not_false_iff, i1, i2, i3]

end Args

/-- A sum over `a` groups of `b`, by the group and the place in it. -/
theorem sum_groups {M : Type} [AddCommMonoid M] (a b : ℕ) (f : Fin (a * b) → M) :
    ∑ n, f n = ∑ i : Fin a, ∑ j : Fin b, f ⟨i.val * b + j.val, by
      calc i.val * b + j.val < i.val * b + b := by omega
        _ = (i.val + 1) * b := by ring
        _ ≤ a * b := Nat.mul_le_mul_right _ i.isLt⟩ := by
  rw [← Fintype.sum_prod_type', ← finProdFinEquiv.sum_comp]
  refine Finset.sum_congr rfl fun p _ => congrArg f (Fin.ext ?_)
  simp [finProdFinEquiv]; ring

end Cert.Din
-- ==== Proof.K.Raw.lean ====
module

public import proofs.«01_k».proof.Proof.K.Maths

@[expose] public section

noncomputable section

/-! The arguments as they are handed over, and the network's inputs looked up from them. -/

namespace Cert.Din

open Idealize.ShloMosaic

/-- The twenty arguments, by their coordinates. -/
structure Raw where
  up : Fin 4096 → Fin 2 → BitVec 32
  beh : Fin 4096 → Fin 200 → Fin 3 → BitVec 32
  ad : Fin 4096 → Fin 3 → BitVec 32
  cx : Fin 4096 → Fin 2 → BitVec 32
  upT : Fin 12 → Fin 8 → EReal
  adT : Fin 101100 → Fin 8 → EReal
  cxT : Fin 20 → Fin 8 → EReal
  W : Fin 96 → Fin 36 → EReal
  bu : Fin 36 → EReal
  au : Fin 36 → EReal
  Wu : Fin 36 → EReal
  cu : EReal
  W1 : Fin 80 → Fin 200 → EReal
  b1 : Fin 200 → EReal
  a1 : Fin 200 → EReal
  W2 : Fin 200 → Fin 80 → EReal
  b2 : Fin 80 → EReal
  a2 : Fin 80 → EReal
  W3 : Fin 80 → Fin 2 → EReal
  b3 : Fin 2 → EReal

/-- Where the rows of each advert feature start in the table. -/
def adOff (k : Fin 3) : ℕ := if k.val = 0 then 0 else if k.val = 1 then 100000 else 101000

namespace Raw

variable (X : Raw)

/-- A value is finite. -/
def Fin' (x : EReal) : Prop := x = ((x.toReal : ℝ) : EReal)

/-- Every index is in its feature's range, and every number but the last layer's is finite. -/
structure Good : Prop where
  up : ∀ b k, (X.up b k).toNat < 2
  beh : ∀ b t k, (X.beh b t k).toNat < 100
  ad : ∀ b k, (X.ad b k).toNat < 100
  cx : ∀ b k, (X.cx b k).toNat < 10
  upT : ∀ r k, Fin' (X.upT r k)
  adT : ∀ r k, Fin' (X.adT r k)
  cxT : ∀ r k, Fin' (X.cxT r k)
  W : ∀ i j, Fin' (X.W i j)
  bu : ∀ j, Fin' (X.bu j)
  au : ∀ j, Fin' (X.au j)
  Wu : ∀ j, Fin' (X.Wu j)
  cu : Fin' X.cu
  W1 : ∀ i j, Fin' (X.W1 i j)
  b1 : ∀ j, Fin' (X.b1 j)
  a1 : ∀ j, Fin' (X.a1 j)
  W2 : ∀ i j, Fin' (X.W2 i j)
  b2 : ∀ j, Fin' (X.b2 j)
  a2 : ∀ j, Fin' (X.a2 j)

/-- Row `n` of the advert table, entry `e`. -/
def adRow (k : Fin 3) (w : BitVec 32) (e : Fin 8) : EReal := X.adT ⟨(adOff k + w.toNat) % 101100, Nat.mod_lt _ (by omega)⟩ e

def upRow (k : Fin 2) (w : BitVec 32) (e : Fin 8) : EReal := X.upT ⟨(2 * k.val + w.toNat) % 12, Nat.mod_lt _ (by omega)⟩ e

def cxRow (k : Fin 2) (w : BitVec 32) (e : Fin 8) : EReal := X.cxT ⟨(10 * k.val + w.toNat) % 20, Nat.mod_lt _ (by omega)⟩ e

/-- The network's inputs. -/
def args : Args where
  E b t d := (X.adRow ⟨d.val / 8, by omega⟩ (X.beh b t ⟨d.val / 8, by omega⟩) ⟨d.val % 8, by omega⟩).toReal
  Q b d := (X.adRow ⟨d.val / 8, by omega⟩ (X.ad b ⟨d.val / 8, by omega⟩) ⟨d.val % 8, by omega⟩).toReal
  U b d := (X.upRow ⟨d.val / 8, by omega⟩ (X.up b ⟨d.val / 8, by omega⟩) ⟨d.val % 8, by omega⟩).toReal
  C b d := (X.cxRow ⟨d.val / 8, by omega⟩ (X.cx b ⟨d.val / 8, by omega⟩) ⟨d.val % 8, by omega⟩).toReal
  W i j := (X.W i j).toReal
  bu j := (X.bu j).toReal
  au j := (X.au j).toReal
  Wu j := (X.Wu j).toReal
  cu := X.cu.toReal
  W1 i j := (X.W1 i j).toReal
  b1 j := (X.b1 j).toReal
  a1 j := (X.a1 j).toReal
  W2 i j := (X.W2 i j).toReal
  b2 j := (X.b2 j).toReal
  a2 j := (X.a2 j).toReal
  W3 := X.W3
  b3 := X.b3

end Raw

end Cert.Din
-- ==== Proof.K.Holds.lean ====
module

public import proofs.«01_k».proof.Proof.K.BodyKernelIdeal
public import proofs.«01_k».proof.Proof.K.Raw
public import Idealize.ShloMosaic.Lib.Pointwise

@[expose] public section

set_option maxRecDepth 16384

noncomputable section

/-! What the blocks of one grid point hold, in terms of the arguments. -/

namespace Cert.Din.Raw

open Idealize.ShloMosaic

variable {R : Raw} (G : R.Good)

include G

/-- An entry of a behaviour's row, from the advert table. -/
theorem E_at (b : Fin 4096) (t : Fin 200) (k : Fin 3) (e : Fin 8) (d : Fin 24) (hd : d.val = 8 * k.val + e.val) :
    R.adRow k (R.beh b t k) e = ((R.args.E b t d : ℝ) : EReal) := by
  have p : d.val / 8 < 3 := by omega
  have q : d.val % 8 < 8 := by omega
  have hk : (⟨d.val / 8, p⟩ : Fin 3) = k := Fin.ext (by dsimp only; omega)
  have he : (⟨d.val % 8, q⟩ : Fin 8) = e := Fin.ext (by dsimp only; omega)
  rw [← hk, ← he]
  exact G.adT _ _

theorem Q_at (b : Fin 4096) (k : Fin 3) (e : Fin 8) (d : Fin 24) (hd : d.val = 8 * k.val + e.val) :
    R.adRow k (R.ad b k) e = ((R.args.Q b d : ℝ) : EReal) := by
  have p : d.val / 8 < 3 := by omega
  have q : d.val % 8 < 8 := by omega
  have hk : (⟨d.val / 8, p⟩ : Fin 3) = k := Fin.ext (by dsimp only; omega)
  have he : (⟨d.val % 8, q⟩ : Fin 8) = e := Fin.ext (by dsimp only; omega)
  rw [← hk, ← he]
  exact G.adT _ _

theorem U_at (b : Fin 4096) (k : Fin 2) (e : Fin 8) (d : Fin 16) (hd : d.val = 8 * k.val + e.val) :
    R.upRow k (R.up b k) e = ((R.args.U b d : ℝ) : EReal) := by
  have p : d.val / 8 < 2 := by omega
  have q : d.val % 8 < 8 := by omega
  have hk : (⟨d.val / 8, p⟩ : Fin 2) = k := Fin.ext (by dsimp only; omega)
  have he : (⟨d.val % 8, q⟩ : Fin 8) = e := Fin.ext (by dsimp only; omega)
  rw [← hk, ← he]
  exact G.upT _ _

theorem C_at (b : Fin 4096) (k : Fin 2) (e : Fin 8) (d : Fin 16) (hd : d.val = 8 * k.val + e.val) :
    R.cxRow k (R.cx b k) e = ((R.args.C b d : ℝ) : EReal) := by
  have p : d.val / 8 < 2 := by omega
  have q : d.val % 8 < 8 := by omega
  have hk : (⟨d.val / 8, p⟩ : Fin 2) = k := Fin.ext (by dsimp only; omega)
  have he : (⟨d.val % 8, q⟩ : Fin 8) = e := Fin.ext (by dsimp only; omega)
  rw [← hk, ← he]
  exact G.cxT _ _

end Cert.Din.Raw

namespace Cert.KernelIdeal.Hand

open Cert.KernelIdeal Cert.KernelIdeal.Gen Idealize.ShloMosaic Cert.Din

/-- The batch row of lane `l` of block `i`. -/
def bOf (i : Fin 32) (l : Fin 25600) : Fin 4096 := ⟨i.val * 128 + l.val / 200, by omega⟩

/-- The time of lane `l`. -/
def tOf (l : Fin 25600) : Fin 200 := ⟨l.val % 200, by omega⟩

/-- The batch row of column `n` of block `i`. -/
def cOf (i : Fin 32) (n : Fin 128) : Fin 4096 := ⟨i.val * 128 + n.val, by omega⟩

/-- The blocks of a grid point whose second coordinate is `i`. -/
structure Holds (R : Raw) (i : Fin 32) (X : Xs Ideal) : Prop where
  ub0 : ∀ l, X.a2 (ix2 0 l) = R.beh (bOf i l) (tOf l) 0
  ub1 : ∀ l, X.a3 (ix2 0 l) = R.beh (bOf i l) (tOf l) 1
  ub2 : ∀ l, X.a4 (ix2 0 l) = R.beh (bOf i l) (tOf l) 2
  cr0 : ∀ l, X.a5 (ix2 0 l) = R.ad (bOf i l) 0
  cr1 : ∀ l, X.a6 (ix2 0 l) = R.ad (bOf i l) 1
  cr2 : ∀ l, X.a7 (ix2 0 l) = R.ad (bOf i l) 2
  ca0 : ∀ n, X.a8 (ix2 0 n) = R.ad (cOf i n) 0
  ca1 : ∀ n, X.a9 (ix2 0 n) = R.ad (cOf i n) 1
  ca2 : ∀ n, X.a10 (ix2 0 n) = R.ad (cOf i n) 2
  up0 : ∀ n, X.a11 (ix2 0 n) = R.up (cOf i n) 0
  up1 : ∀ n, X.a12 (ix2 0 n) = R.up (cOf i n) 1
  cx0 : ∀ n, X.a13 (ix2 0 n) = R.cx (cOf i n) 0
  cx1 : ∀ n, X.a14 (ix2 0 n) = R.cx (cOf i n) 1
  ad0 : ∀ (w : BitVec 32) (h : w.toNat < 100) r, X.a15 (ix2 r ⟨w.toNat, by omega⟩) = R.adRow 0 w r
  ad1 : ∀ (w : BitVec 32) (h : w.toNat < 100) r, X.a16 (ix2 r ⟨w.toNat, by omega⟩) = R.adRow 1 w r
  ad2 : ∀ (w : BitVec 32) (h : w.toNat < 100) r, X.a17 (ix2 r ⟨w.toNat, by omega⟩) = R.adRow 2 w r
  ut0 : ∀ (w : BitVec 32) (h : w.toNat < 2) r, X.a18 (ix2 r ⟨w.toNat, by omega⟩) = R.upRow 0 w r
  ut1 : ∀ (w : BitVec 32) (h : w.toNat < 2) r, X.a19 (ix2 r ⟨w.toNat, by omega⟩) = R.upRow 1 w r
  ct0 : ∀ (w : BitVec 32) (h : w.toNat < 10) r, X.a20 (ix2 r ⟨w.toNat, by omega⟩) = R.cxRow 0 w r
  ct1 : ∀ (w : BitVec 32) (h : w.toNat < 10) r, X.a21 (ix2 r ⟨w.toNat, by omega⟩) = R.cxRow 1 w r
  w0 : ∀ j (k : Fin 24), X.a22 (ix2 j ⟨k.val, by omega⟩) = R.W ⟨k.val, by omega⟩ j + R.W ⟨48 + k.val, by omega⟩ j
  w1 : ∀ j (k : Fin 24), X.a22 (ix2 j ⟨24 + k.val, by omega⟩) = R.W ⟨24 + k.val, by omega⟩ j - R.W ⟨48 + k.val, by omega⟩ j
  w2 : ∀ j (k : Fin 24), X.a22 (ix2 j ⟨48 + k.val, by omega⟩) = R.W ⟨72 + k.val, by omega⟩ j
  bu : ∀ j, X.a23 (ix2 j 0) = R.bu j
  au : ∀ j, X.a24 (ix2 j 0) = R.au j
  Wu : ∀ j, X.a25 (ix2 j 0) = R.Wu j
  cu : X.a26 (ix2 0 0) = R.cu
  sel : ∀ l n, X.a27 (ix2 l n) = if l.val / 200 = n.val then (1 : EReal) else 0
  W1 : ∀ j k, X.a28 (ix2 j k) = R.W1 k j
  b1 : ∀ j, X.a29 (ix2 j 0) = R.b1 j
  a1 : ∀ j, X.a30 (ix2 j 0) = R.a1 j
  W2 : ∀ j k, X.a31 (ix2 j k) = R.W2 k j
  b2 : ∀ j, X.a32 (ix2 j 0) = R.b2 j
  a2 : ∀ j, X.a33 (ix2 j 0) = R.a2 j
  W3 : ∀ o k, X.a34 (ix2 o k) = R.W3 k o
  b3 : ∀ o, X.a35 (ix2 o 0) = R.b3 o

/-- The lane a small word picks is the word. -/
theorem lane_eq (w : BitVec 32) (h : w.toNat < 100) :
    (Scalar.select (IntOp.cmpi CmpIPredicate.slt w 0#32) (IntOp.addi w 128#32) w).toNat % 128 = w.toNat := by
  have h0 : IntOp.cmpi CmpIPredicate.slt w 0#32 = 0#1 := by
    show BitVec.ofBool (w.slt 0#32) = 0#1
    rw [BitVec.slt, show (0#32).toInt = 0 from rfl, BitVec.toInt_eq_toNat_cond, if_pos (by omega), decide_eq_false (by omega)]
    rfl
  rw [h0]
  exact Nat.mod_eq_of_lt (by show w.toNat < 128; omega)

/-- A row's entry, read at the lane its number picks. -/
theorem look {N : ℕ} (hN : N ≤ 100) (x : S8x128.Idx → EReal) (row : Fin 8 → EReal) (w v : BitVec 32) (hw : w.toNat < N)
    (hx : ∀ r, x (ix2 r ⟨w.toNat, by omega⟩) = row r) (hv : v = w) (p r : Fin 8) (q : Fin 128) (hp : p.val = r.val)
    (hq : q.val = (Scalar.select (IntOp.cmpi CmpIPredicate.slt v 0#32) (IntOp.addi v 128#32) v).toNat % 128) :
    x (ix2 p q) = row r := by
  subst hv
  obtain rfl : p = r := Fin.ext hp
  rw [← hx p]
  exact congrArg (fun q => x (ix2 p q)) (Fin.ext (hq.trans (lane_eq v (by omega))))

end Cert.KernelIdeal.Hand
-- ==== Proof.K.Gather.lean ====
module

public import Idealize.ShloMosaic.Lib.Pointwise

@[expose] public section

noncomputable section

/-! Rows of a table taken by their numbers. -/

namespace Cert.Din

open Idealize.ShloMosaic

theorem toInt_small (n : ℕ) (h : n < 2 ^ 31) : (BitVec.ofNat 32 n).toInt = (n : ℤ) := by
  rw [BitVec.toInt_eq_toNat_cond, BitVec.toNat_ofNat, Nat.mod_eq_of_lt (by omega), if_pos (by omega)]

/-- The dimension numbers of whole rows taken at an array of numbers of rank three. -/
abbrev takeDims4 (N K a b c : ℕ) (wf : GatherDims.WF ⟨2, ![N, K]⟩ ⟨4, ![a, b, c, 1]⟩ ⟨4, ![a, b, c, K]⟩ [3] [0] [] [0] [] 3 ![1, K]) :
    GatherDims ⟨2, ![N, K]⟩ ⟨4, ![a, b, c, 1]⟩ ⟨4, ![a, b, c, K]⟩ where
  offsetDims := [3]
  collapsedSliceDims := [0]
  operandBatchingDims := []
  startIndicesBatchingDims := []
  startIndexMap := [0]
  indexVectorDim := 3
  sliceSizes := ![1, K]
  wf := wf

theorem gather_rows4 {α : Type} {N K a b c : ℕ} (wf : GatherDims.WF ⟨2, ![N, K]⟩ ⟨4, ![a, b, c, 1]⟩ ⟨4, ![a, b, c, K]⟩ [3] [0] [] [0] [] 3 ![1, K])
    (x : (⟨2, ![N, K]⟩ : Shape).Idx → α) (idx : IVec ⟨4, ![a, b, c, 1]⟩ 32) (p : Fin a) (q : Fin b) (r : Fin c) (s : Fin K) (n : Fin N)
    (hN : N < 2 ^ 31) (hn : idx (ix4 p q r 0) = BitVec.ofNat 32 n.val) :
    Host.gather (takeDims4 N K a b c wf) x idx (ix4 p q r s) = x (ix2 n s) := by
  unfold Host.gather
  refine congrArg x (funext fun d => Fin.ext ?_)
  show (takeDims4 N K a b c wf).start (ix4 p q r s) idx d + (takeDims4 N K a b c wf).batchCoord (ix4 p q r s) d
      + (takeDims4 N K a b c wf).offCoord (ix4 p q r s) d = _
  match d with
  | ⟨0, _⟩ =>
    have hs : (takeDims4 N K a b c wf).start (ix4 p q r s) idx (0 : Fin 2) = n.val := by
      unfold GatherDims.start
      rw [dif_pos (show (0 : Fin 2) ∈ (takeDims4 N K a b c wf).startIndexMap from List.mem_singleton.mpr rfl)]
      have hsi : (takeDims4 N K a b c wf).siIdx (ix4 p q r s) ⟨List.idxOf (0 : Fin 2) (takeDims4 N K a b c wf).startIndexMap,
          List.idxOf_lt_length_iff.2 (List.mem_singleton.mpr rfl)⟩ = ix4 p q r 0 := by
        funext e; refine Fin.ext ?_
        match e with
        | ⟨0, _⟩ => rfl
        | ⟨1, _⟩ => rfl
        | ⟨2, _⟩ => rfl
        | ⟨3, _⟩ => rfl
      rw [hsi, hn, toInt_small _ (by omega)]
      show min n.val (N - 1) = n.val
      omega
    show (takeDims4 N K a b c wf).start (ix4 p q r s) idx (0 : Fin 2) + 0 + 0 = n.val
    rw [hs]; rfl
  | ⟨1, _⟩ =>
    show 0 + 0 + s.val = s.val
    omega

/-- The dimension numbers of whole rows taken at an array of numbers of rank two. -/
abbrev takeDims3 (N K a b : ℕ) (wf : GatherDims.WF ⟨2, ![N, K]⟩ ⟨3, ![a, b, 1]⟩ ⟨3, ![a, b, K]⟩ [2] [0] [] [0] [] 2 ![1, K]) :
    GatherDims ⟨2, ![N, K]⟩ ⟨3, ![a, b, 1]⟩ ⟨3, ![a, b, K]⟩ where
  offsetDims := [2]
  collapsedSliceDims := [0]
  operandBatchingDims := []
  startIndicesBatchingDims := []
  startIndexMap := [0]
  indexVectorDim := 2
  sliceSizes := ![1, K]
  wf := wf

theorem gather_rows3 {α : Type} {N K a b : ℕ} (wf : GatherDims.WF ⟨2, ![N, K]⟩ ⟨3, ![a, b, 1]⟩ ⟨3, ![a, b, K]⟩ [2] [0] [] [0] [] 2 ![1, K])
    (x : (⟨2, ![N, K]⟩ : Shape).Idx → α) (idx : IVec ⟨3, ![a, b, 1]⟩ 32) (p : Fin a) (q : Fin b) (s : Fin K) (n : Fin N)
    (hN : N < 2 ^ 31) (hn : idx (ix3 p q 0) = BitVec.ofNat 32 n.val) :
    Host.gather (takeDims3 N K a b wf) x idx (ix3 p q s) = x (ix2 n s) := by
  unfold Host.gather
  refine congrArg x (funext fun d => Fin.ext ?_)
  show (takeDims3 N K a b wf).start (ix3 p q s) idx d + (takeDims3 N K a b wf).batchCoord (ix3 p q s) d
      + (takeDims3 N K a b wf).offCoord (ix3 p q s) d = _
  match d with
  | ⟨0, _⟩ =>
    have hs : (takeDims3 N K a b wf).start (ix3 p q s) idx (0 : Fin 2) = n.val := by
      unfold GatherDims.start
      rw [dif_pos (show (0 : Fin 2) ∈ (takeDims3 N K a b wf).startIndexMap from List.mem_singleton.mpr rfl)]
      have hsi : (takeDims3 N K a b wf).siIdx (ix3 p q s) ⟨List.idxOf (0 : Fin 2) (takeDims3 N K a b wf).startIndexMap,
          List.idxOf_lt_length_iff.2 (List.mem_singleton.mpr rfl)⟩ = ix3 p q 0 := by
        funext e; refine Fin.ext ?_
        match e with
        | ⟨0, _⟩ => rfl
        | ⟨1, _⟩ => rfl
        | ⟨2, _⟩ => rfl
      rw [hsi, hn, toInt_small _ (by omega)]
      show min n.val (N - 1) = n.val
      omega
    show (takeDims3 N K a b wf).start (ix3 p q s) idx (0 : Fin 2) + 0 + 0 = n.val
    rw [hs]; rfl
  | ⟨1, _⟩ =>
    show 0 + 0 + s.val = s.val
    omega

/-- A row number made of a start and a small word: nothing wraps, nothing is negative, nothing is past the end. -/
theorem row_number (w : BitVec 32) (o n N : ℕ) (hw : w.toNat < n) (ho : o + n ≤ N) (hN : N < 2 ^ 31) :
    Scalar.select (IntOp.cmpi CmpIPredicate.slt (IntOp.addi w (BitVec.ofNat 32 o)) 0#32)
        (IntOp.addi (IntOp.addi w (BitVec.ofNat 32 o)) (BitVec.ofNat 32 N)) (IntOp.addi w (BitVec.ofNat 32 o))
      = BitVec.ofNat 32 (o + w.toNat) := by
  have e : IntOp.addi w (BitVec.ofNat 32 o) = BitVec.ofNat 32 (o + w.toNat) := by
    apply BitVec.eq_of_toNat_eq
    show (w + BitVec.ofNat 32 o).toNat = _
    rw [BitVec.toNat_add, BitVec.toNat_ofNat, BitVec.toNat_ofNat]
    omega
  rw [e]
  have h : IntOp.cmpi CmpIPredicate.slt (BitVec.ofNat 32 (o + w.toNat)) 0#32 = 0#1 := by
    show BitVec.ofBool ((BitVec.ofNat 32 (o + w.toNat)).slt 0#32) = 0#1
    rw [BitVec.slt, toInt_small _ (by omega), show (0#32).toInt = 0 from rfl, decide_eq_false (by omega)]; rfl
  rw [h]
  rfl

/-- The test that a row number is in the table passes. -/
theorem row_inside (n N : ℕ) (hn : n ≤ N) (hN : N < 2 ^ 31) :
    IntOp.andi (IntOp.cmpi CmpIPredicate.sge (BitVec.ofNat 32 n) 0#32) (IntOp.cmpi CmpIPredicate.sle (BitVec.ofNat 32 n) (BitVec.ofNat 32 N)) = 1#1 := by
  have h1 : IntOp.cmpi CmpIPredicate.sge (BitVec.ofNat 32 n) 0#32 = 1#1 := by
    show BitVec.ofBool ((0#32).sle (BitVec.ofNat 32 n)) = 1#1
    rw [BitVec.sle, toInt_small _ (by omega), decide_eq_true (show ((0:ℕ):ℤ) ≤ _ by rw [toInt_small _ (by omega)]; omega)]; rfl
  have h2 : IntOp.cmpi CmpIPredicate.sle (BitVec.ofNat 32 n) (BitVec.ofNat 32 N) = 1#1 := by
    show BitVec.ofBool ((BitVec.ofNat 32 n).sle (BitVec.ofNat 32 N)) = 1#1
    rw [BitVec.sle, toInt_small _ (by omega), toInt_small _ (by omega)]
    simp [hn]
  rw [h1, h2]; rfl

/-- The conjunction over one place. -/
theorem fold_one (f : Fin 1 → BitVec 1) (h : f 0 = 1#1) : Finset.fold IntOp.andi (1#1) f Finset.univ = 1#1 := by
  rw [show (Finset.univ : Finset (Fin 1)) = {0} from rfl, Finset.fold_singleton, h]; rfl

end Cert.Din
-- ==== Proof.K.Scatter.lean ====
module

public import Idealize.ShloMosaic.Lib.Pointwise
public import Idealize.ShloMosaic.Lib.Routing.OpsSet

@[expose] public section

noncomputable section

/-! A block of rows written over the top of a table. -/

namespace Cert.Din

open Idealize.ShloMosaic

/-- The dimension numbers of one block of `U` whole rows written at one row number. -/
abbrev rowsDims (R C U : ℕ) (h : ScatterDims.WF ⟨2, ![R, C]⟩ ⟨1, ![1]⟩ ⟨2, ![U, C]⟩ [0, 1] [] [0] 0) :
    ScatterDims ⟨2, ![R, C]⟩ ⟨1, ![1]⟩ ⟨2, ![U, C]⟩ where
  updateWindowDims := [0, 1]
  insertedWindowDims := []
  scatterDimsToOperandDims := [0]
  indexVectorDim := 0
  wf := h

variable {R C U : ℕ} (h : ScatterDims.WF ⟨2, ![R, C]⟩ ⟨1, ![1]⟩ ⟨2, ![U, C]⟩ [0, 1] [] [0] 0)

theorem rows_start (j : (⟨2, ![U, C]⟩ : Shape).Idx) (idx : IVec ⟨1, ![1]⟩ 32) (hidx : ∀ i, idx i = 0#32) (a : Fin 2) :
    (rowsDims R C U h).start j idx a = 0 := by
  unfold ScatterDims.start
  split
  · rw [hidx]; rfl
  · rfl

theorem rows_window (j : (⟨2, ![U, C]⟩ : Shape).Idx) (a : Fin 2) : (rowsDims R C U h).window j a = (j a).val := by
  match a with
  | ⟨0, _⟩ => rfl
  | ⟨1, _⟩ => rfl

theorem rows_lands (j : (⟨2, ![U, C]⟩ : Shape).Idx) (idx : IVec ⟨1, ![1]⟩ 32) (hidx : ∀ i, idx i = 0#32)
    (i : (⟨2, ![R, C]⟩ : Shape).Idx) :
    (rowsDims R C U h).resultIdx? j idx = some i ↔ ∀ a : Fin 2, (i a).val = (j a).val := by
  unfold ScatterDims.resultIdx?
  split
  · rename_i hin
    rw [Option.some.injEq]
    constructor
    · rintro rfl a
      show ((rowsDims R C U h).start j idx a + (rowsDims R C U h).window j a).toNat = _
      rw [rows_start h j idx hidx, rows_window]; simp
    · intro e
      funext a
      apply Fin.ext
      show ((rowsDims R C U h).start j idx a + (rowsDims R C U h).window j a).toNat = _
      rw [rows_start h j idx hidx, rows_window, e a]; simp
  · rename_i hin
    refine ⟨(nomatch ·), fun e => (hin fun a => ?_).elim⟩
    rw [rows_start h j idx hidx, rows_window, ← e a]
    have := (i a).isLt
    omega

/-- A row under the block is the block's row. -/
theorem scatter_rows {α : Type} (x : (⟨2, ![R, C]⟩ : Shape).Idx → α) (idx : IVec ⟨1, ![1]⟩ 32) (hidx : ∀ i, idx i = 0#32)
    (upd : (⟨2, ![U, C]⟩ : Shape).Idx → α) (r : Fin R) (u : Fin U) (e : r.val = u.val) (k : Fin C) :
    Host.scatter (rowsDims R C U h) (fun _ b => b) x idx upd (ix2 r k) = upd (ix2 u k) := by
  refine Routing.scatter_set_hit _ x idx upd _ _ (fun j hj => ?_) (ix2 u k) ((rows_lands h _ idx hidx _).2 fun a => ?_)
  · have hh := (rows_lands h _ idx hidx _).1 hj
    congr 1
    funext a
    apply Fin.ext
    rw [← hh a]
    match a with
    | ⟨0, _⟩ => exact e
    | ⟨1, _⟩ => rfl
  · match a with
    | ⟨0, _⟩ => exact e
    | ⟨1, _⟩ => rfl

end Cert.Din
-- ==== Proof.K.HostA.lean ====
module

public import proofs.«01_k».proof.Proof.Gen.KernelIdeal.Frame
public import proofs.«01_k».proof.Proof.K.Raw
public import proofs.«01_k».proof.Proof.K.Gather
public import proofs.«01_k».proof.Proof.K.Scatter
public import Idealize.ShloMosaic.Lib.Claim
public import Idealize.ShloMosaic.Lib.StableHlo.ReadAt
public import Idealize.ShloMosaic.Lib.Pointwise
public import Idealize.ShloMosaic.Lib.Tactic.CleanTypes

@[expose] public section

set_option maxRecDepth 16384

noncomputable section

/-! The arguments of the kernel, and the index rows its host prefix lays out. -/

namespace Cert.KernelIdeal.Hand

open Cert.KernelIdeal Cert.KernelIdeal.Gen Idealize.ShloMosaic Idealize.ShloMosaic.TcCoe Cert.Din

variable (m : (ℓ : Loc nD τ sig) → Buf (Elt Ideal) ℓ) (c : Dev nD)

/-- The arguments the kernel reads. -/
def rawK : Raw where
  up b k := m (c, Proc.tc.devRef main_arg0) (ix2 b k)
  beh b t k := m (c, Proc.tc.devRef main_arg1) (ix3 b t k)
  ad b k := m (c, Proc.tc.devRef main_arg2) (ix3 b 0 k)
  cx b k := m (c, Proc.tc.devRef main_arg3) (ix2 b k)
  upT r k := m (c, Proc.tc.devRef main_arg4) (ix2 r k)
  adT r k := m (c, Proc.tc.devRef main_arg5) (ix2 r k)
  cxT r k := m (c, Proc.tc.devRef main_arg6) (ix2 r k)
  W i j := m (c, Proc.tc.devRef main_arg7) (ix2 i j)
  bu j := m (c, Proc.tc.devRef main_arg8) (ix1 j)
  au j := m (c, Proc.tc.devRef main_arg9) (ix1 j)
  Wu j := m (c, Proc.tc.devRef main_arg10) (ix2 j 0)
  cu := m (c, Proc.tc.devRef main_arg11) (ix1 0)
  W1 i j := m (c, Proc.tc.devRef main_arg12) (ix2 i j)
  b1 j := m (c, Proc.tc.devRef main_arg13) (ix1 j)
  a1 j := m (c, Proc.tc.devRef main_arg14) (ix1 j)
  W2 i j := m (c, Proc.tc.devRef main_arg15) (ix2 i j)
  b2 j := m (c, Proc.tc.devRef main_arg16) (ix1 j)
  a2 j := m (c, Proc.tc.devRef main_arg17) (ix1 j)
  W3 i j := m (c, Proc.tc.devRef main_arg18) (ix2 i j)
  b3 j := m (c, Proc.tc.devRef main_arg19) (ix1 j)

theorem v2_at (n : Fin 819200) : V m c main_v2 (ix2 0 n) = (rawK m c).beh ⟨n.val / 200, by omega⟩ ⟨n.val % 200, by omega⟩ 0 := by
  unfold V
  after_reads_at
  rfl

theorem v5_at (n : Fin 819200) : V m c main_v5 (ix2 0 n) = (rawK m c).beh ⟨n.val / 200, by omega⟩ ⟨n.val % 200, by omega⟩ 1 := by
  unfold V
  after_reads_at
  rfl

theorem v8_at (n : Fin 819200) : V m c main_v8 (ix2 0 n) = (rawK m c).beh ⟨n.val / 200, by omega⟩ ⟨n.val % 200, by omega⟩ 2 := by
  unfold V
  after_reads_at
  rfl

theorem v14_at (n : Fin 819200) : V m c main_v14 (ix2 0 n) = (rawK m c).ad ⟨n.val / 200, by omega⟩ 0 := by
  unfold V
  after_reads_at
  rfl

theorem v19_at (n : Fin 819200) : V m c main_v19 (ix2 0 n) = (rawK m c).ad ⟨n.val / 200, by omega⟩ 1 := by
  unfold V
  after_reads_at
  rfl

theorem v24_at (n : Fin 819200) : V m c main_v24 (ix2 0 n) = (rawK m c).ad ⟨n.val / 200, by omega⟩ 2 := by
  unfold V
  after_reads_at
  rfl

theorem v27_at (n : Fin 4096) : V m c main_v27 (ix2 0 n) = (rawK m c).ad n 0 := by
  unfold V
  after_reads_at
  rfl

theorem v30_at (n : Fin 4096) : V m c main_v30 (ix2 0 n) = (rawK m c).ad n 1 := by
  unfold V
  after_reads_at
  rfl

theorem v33_at (n : Fin 4096) : V m c main_v33 (ix2 0 n) = (rawK m c).ad n 2 := by
  unfold V
  after_reads_at
  rfl

theorem v36_at (n : Fin 4096) : V m c main_v36 (ix2 0 n) = (rawK m c).up n 0 := by
  unfold V
  after_reads_at
  rfl

theorem v39_at (n : Fin 4096) : V m c main_v39 (ix2 0 n) = (rawK m c).up n 1 := by
  unfold V
  after_reads_at
  rfl

theorem v42_at (n : Fin 4096) : V m c main_v42 (ix2 0 n) = (rawK m c).cx n 0 := by
  unfold V
  after_reads_at
  rfl

theorem v45_at (n : Fin 4096) : V m c main_v45 (ix2 0 n) = (rawK m c).cx n 1 := by
  unfold V
  after_reads_at
  rfl

end Cert.KernelIdeal.Hand
-- ==== Proof.K.HostB.lean ====
module

public import proofs.«01_k».proof.Proof.Gen.KernelIdeal.Frame
public import proofs.«01_k».proof.Proof.K.Raw
public import proofs.«01_k».proof.Proof.K.Gather
public import proofs.«01_k».proof.Proof.K.Scatter
public import proofs.«01_k».proof.Proof.K.HostA
public import Idealize.ShloMosaic.Lib.Claim
public import Idealize.ShloMosaic.Lib.StableHlo.ReadAt
public import Idealize.ShloMosaic.Lib.Pointwise
public import Idealize.ShloMosaic.Lib.Tactic.CleanTypes

@[expose] public section

set_option maxRecDepth 16384

noncomputable section

/-! The lookup tables the host prefix lays out. -/

namespace Cert.KernelIdeal.Hand

open Cert.KernelIdeal Cert.KernelIdeal.Gen Idealize.ShloMosaic Idealize.ShloMosaic.TcCoe Cert.Din

variable (m : (ℓ : Loc nD τ sig) → Buf (Elt Ideal) ℓ) (c : Dev nD)

omit m c in
theorem off0 : adOff 0 = 0 := rfl

omit m c in
theorem off1 : adOff 1 = 100000 := rfl

omit m c in
theorem off2 : adOff 2 = 101000 := rfl

set_option maxHeartbeats 1000000 in
theorem ad_tables : (∀ (w : BitVec 32) (h : w.toNat < 100) (r : Fin 8), V m c main_v50 (ix2 r ⟨w.toNat, by omega⟩) = (rawK m c).adRow 0 w r)
    ∧ (∀ (w : BitVec 32) (h : w.toNat < 100) (r : Fin 8), V m c main_v55 (ix2 r ⟨w.toNat, by omega⟩) = (rawK m c).adRow 1 w r)
    ∧ (∀ (w : BitVec 32) (h : w.toNat < 100) (r : Fin 8), V m c main_v60 (ix2 r ⟨w.toNat, by omega⟩) = (rawK m c).adRow 2 w r) := by
  refine ⟨?_, ?_, ?_⟩ <;> intro w h r <;> unfold V <;> after_reads_at <;>
    refine (scatter_rows (R := 128) (C := 8) (U := 100) _ _ _ (fun _ => rfl) _ _ ⟨w.toNat, by omega⟩ rfl r).trans ?_ <;> pointwise <;>
    exact congrArg (fun p => m (c, Proc.tc.devRef main_arg5) (ix2 p r)) (Fin.ext (by
      simp only [off0, off1, off2]
      omega))

set_option maxHeartbeats 1000000 in
theorem up_tables : (∀ (w : BitVec 32) (h : w.toNat < 2) (r : Fin 8), V m c main_v65 (ix2 r ⟨w.toNat, by omega⟩) = (rawK m c).upRow 0 w r) := by
  intro w h r <;> unfold V <;> after_reads_at <;>
    refine (scatter_rows (R := 128) (C := 8) (U := 2) _ _ _ (fun _ => rfl) _ _ ⟨w.toNat, by omega⟩ rfl r).trans ?_ <;> pointwise <;>
    exact congrArg (fun p => m (c, Proc.tc.devRef main_arg4) (ix2 p r)) (Fin.ext (by
      simp only [off0, off1, off2]
      omega))

set_option maxHeartbeats 1000000 in
theorem up_table1 : (∀ (w : BitVec 32) (h : w.toNat < 2) (r : Fin 8), V m c main_v70 (ix2 r ⟨w.toNat, by omega⟩) = (rawK m c).upRow 1 w r) := by
  intro w h r <;> unfold V <;> after_reads_at <;>
    refine (scatter_rows (R := 128) (C := 8) (U := 10) _ _ _ (fun _ => rfl) _ _ ⟨w.toNat, by omega⟩ rfl r).trans ?_ <;> pointwise <;>
    exact congrArg (fun p => m (c, Proc.tc.devRef main_arg4) (ix2 p r)) (Fin.ext (by
      simp only [off0, off1, off2]
      omega))

set_option maxHeartbeats 1000000 in
theorem cx_tables : (∀ (w : BitVec 32) (h : w.toNat < 10) (r : Fin 8), V m c main_v75 (ix2 r ⟨w.toNat, by omega⟩) = (rawK m c).cxRow 0 w r)
    ∧ (∀ (w : BitVec 32) (h : w.toNat < 10) (r : Fin 8), V m c main_v80 (ix2 r ⟨w.toNat, by omega⟩) = (rawK m c).cxRow 1 w r) := by
  refine ⟨?_, ?_⟩ <;> intro w h r <;> unfold V <;> after_reads_at <;>
    refine (scatter_rows (R := 128) (C := 8) (U := 10) _ _ _ (fun _ => rfl) _ _ ⟨w.toNat, by omega⟩ rfl r).trans ?_ <;> pointwise <;>
    exact congrArg (fun p => m (c, Proc.tc.devRef main_arg6) (ix2 p r)) (Fin.ext (by
      simp only [off0, off1, off2]
      omega))

end Cert.KernelIdeal.Hand
-- ==== Proof.K.HostC.lean ====
module

public import proofs.«01_k».proof.Proof.Gen.KernelIdeal.Frame
public import proofs.«01_k».proof.Proof.K.Raw
public import proofs.«01_k».proof.Proof.K.Gather
public import proofs.«01_k».proof.Proof.K.Scatter
public import proofs.«01_k».proof.Proof.K.HostA
public import Idealize.ShloMosaic.Lib.Claim
public import Idealize.ShloMosaic.Lib.StableHlo.ReadAt
public import Idealize.ShloMosaic.Lib.Pointwise
public import Idealize.ShloMosaic.Lib.Routing.Words
public import Idealize.ShloMosaic.Lib.Tactic.CleanTypes

@[expose] public section

set_option maxRecDepth 16384

noncomputable section

/-! The weights the host prefix lays out. -/

namespace Cert.KernelIdeal.Hand

open Cert.KernelIdeal Cert.KernelIdeal.Gen Idealize.ShloMosaic Idealize.ShloMosaic.TcCoe Cert.Din

variable (m : (ℓ : Loc nD τ sig) → Buf (Elt Ideal) ℓ) (c : Dev nD)

theorem v88_at0 (j : Fin 36) (k : Fin 24) : V m c main_v88 (ix2 j ⟨k.val, by omega⟩) = ((rawK m c).W ⟨k.val, by omega⟩ j + (rawK m c).W ⟨48 + k.val, by omega⟩ j : EReal) := by
  unfold V
  after_reads_at
  after_reads_at
  rfl

theorem v88_at1 (j : Fin 36) (k : Fin 24) : V m c main_v88 (ix2 j ⟨24 + k.val, by omega⟩) = ((rawK m c).W ⟨24 + k.val, by omega⟩ j - (rawK m c).W ⟨48 + k.val, by omega⟩ j : EReal) := by
  unfold V
  after_reads_at
  after_reads_at
  rfl

theorem v88_at2 (j : Fin 36) (k : Fin 24) : V m c main_v88 (ix2 j ⟨48 + k.val, by omega⟩) = ((rawK m c).W ⟨72 + k.val, by omega⟩ j : EReal) := by
  unfold V
  after_reads_at
  after_reads_at
  rw [dif_neg (by omega), dif_neg (by omega)]
  refine congrArg (fun p => m (c, Proc.tc.devRef main_arg7) (ix2 p j)) (Fin.ext ?_)
  show 72 + (48 + k.val - 24 - 24) = 72 + k.val
  omega

omit m c in
/-- The column a lane belongs to, as the host prefix works it out. -/
theorem sel_word (l : Fin 25600) (n : Fin 128) (d : BitVec 32) (hd : d = 200#32) :
    FloatOps.uitofp (F := Ideal) FTy.f32
      (IntOp.cmpi CmpIPredicate.eq
        (Scalar.select
          (IntOp.andi
            (IntOp.cmpi CmpIPredicate.ne
              (if BitVec.ofNat 32 l.val = 0 then (0 : BitVec 32) else if (BitVec.ofNat 32 l.val).msb = true then -1 else 1)
              (if d = 0 then (0 : BitVec 32) else if BitVec.msb d = true then -1 else 1))
            (IntOp.cmpi CmpIPredicate.ne (IntOp.remsi ArithUnit.host (BitVec.ofNat 32 l.val) d) 0#32))
          (IntOp.subi (IntOp.divsi ArithUnit.host (BitVec.ofNat 32 l.val) d) 1#32)
          (IntOp.divsi ArithUnit.host (BitVec.ofNat 32 l.val) d))
        (BitVec.ofNat 32 n.val)) = (if l.val / 200 = n.val then (1 : EReal) else 0) := by
  subst hd
  have hl : l.val < 25600 := l.isLt
  have hn : n.val < 128 := n.isLt
  have hmsb : (BitVec.ofNat 32 l.val).msb = false := by
    rw [BitVec.msb_eq_decide, BitVec.toNat_ofNat, Nat.mod_eq_of_lt (by omega)]
    exact decide_eq_false (by omega)
  rw [show (200#32 : BitVec 32) = BitVec.ofNat 32 200 from rfl,
    Routing.remsi_word ArithUnit.host (a := l.val) (b := 200) (by omega) (by omega) (by omega),
    Routing.divsi_word ArithUnit.host (a := l.val) (b := 200) (by omega) (by omega) (by omega), hmsb]
  have hc : IntOp.andi
            (IntOp.cmpi CmpIPredicate.ne
              (if BitVec.ofNat 32 l.val = 0 then (0 : BitVec 32) else if false = true then -1 else 1)
              (if BitVec.ofNat 32 200 = 0 then (0 : BitVec 32) else if BitVec.msb (BitVec.ofNat 32 200) = true then -1 else 1))
            (IntOp.cmpi CmpIPredicate.ne (BitVec.ofNat 32 (l.val % 200)) 0#32) = 0#1 := by
    by_cases h0 : l.val = 0
    · rw [h0]; decide
    · have h1 : ¬ BitVec.ofNat 32 l.val = 0 := by
        intro h
        have := congrArg BitVec.toNat h
        rw [BitVec.toNat_ofNat, Nat.mod_eq_of_lt (by omega)] at this
        exact h0 this
      rw [if_neg h1]
      show IntOp.andi 0#1 _ = 0#1
      exact BitVec.zero_and
  rw [hc]
  show FloatOps.uitofp (F := Idealize.ShloMosaic.Ideal) FTy.f32 (BitVec.ofBool (BitVec.ofNat 32 (l.val / 200) == BitVec.ofNat 32 n.val)) = _
  by_cases h : l.val / 200 = n.val
  · rw [if_pos h, h, beq_self_eq_true]
    show (((1 : ℕ) : ℝ) : EReal) = 1
    rw [Nat.cast_one, EReal.coe_one]
  · rw [if_neg h]
    have : (BitVec.ofNat 32 (l.val / 200) == BitVec.ofNat 32 n.val) = false := by
      rw [beq_eq_false_iff_ne]
      intro e
      have := congrArg BitVec.toNat e
      rw [BitVec.toNat_ofNat, BitVec.toNat_ofNat, Nat.mod_eq_of_lt (by omega), Nat.mod_eq_of_lt (by omega)] at this
      exact h this
    rw [this]
    show (((0 : ℕ) : ℝ) : EReal) = 0
    rw [Nat.cast_zero, EReal.coe_zero]

theorem v94_at (l : Fin 25600) (n : Fin 128) : V m c main_v94 (ix2 l n) = (if l.val / 200 = n.val then (1 : EReal) else 0) := by
  unfold V
  after_reads_at
  exact sel_word l n _ rfl

theorem v95_at (j : Fin 36) : V m c main_v95 (ix2 j 0) = (rawK m c).bu j := by
  unfold V
  after_reads_at
  rfl

theorem v96_at (j : Fin 36) : V m c main_v96 (ix2 j 0) = (rawK m c).au j := by
  unfold V
  after_reads_at
  rfl

theorem v98_at (j : Fin 36) : V m c main_v98 (ix2 j 0) = (rawK m c).Wu j := by
  unfold V
  after_reads_at
  rfl

theorem v101_at (j : Fin 200) : V m c main_v101 (ix2 j 0) = (rawK m c).b1 j := by
  unfold V
  after_reads_at
  rfl

theorem v102_at (j : Fin 200) : V m c main_v102 (ix2 j 0) = (rawK m c).a1 j := by
  unfold V
  after_reads_at
  rfl

theorem v104_at (j : Fin 80) : V m c main_v104 (ix2 j 0) = (rawK m c).b2 j := by
  unfold V
  after_reads_at
  rfl

theorem v105_at (j : Fin 80) : V m c main_v105 (ix2 j 0) = (rawK m c).a2 j := by
  unfold V
  after_reads_at
  rfl

theorem v107_at (j : Fin 2) : V m c main_v107 (ix2 j 0) = (rawK m c).b3 j := by
  unfold V
  after_reads_at
  rfl

theorem v99_at : V m c main_v99 (ix2 0 0) = (rawK m c).cu := by
  unfold V
  after_reads_at
  rfl

theorem v100_at (j : Fin 200) (k : Fin 80) : V m c main_v100 (ix2 j k) = (rawK m c).W1 k j := by
  unfold V
  after_reads_at
  rfl

theorem v103_at (j : Fin 80) (k : Fin 200) : V m c main_v103 (ix2 j k) = (rawK m c).W2 k j := by
  unfold V
  after_reads_at
  rfl

theorem v106_at (j : Fin 2) (k : Fin 80) : V m c main_v106 (ix2 j k) = (rawK m c).W3 k j := by
  unfold V
  after_reads_at
  rfl

end Cert.KernelIdeal.Hand
-- ==== Proof.K.Blocks.lean ====
module

public import proofs.«01_k».proof.Proof.Gen.KernelIdeal.Frame
public import proofs.«01_k».proof.Proof.K.Raw
public import proofs.«01_k».proof.Proof.K.LaunchKernelIdeal
public import proofs.«01_k».proof.Proof.K.Gather
public import proofs.«01_k».proof.Proof.K.Scatter
public import Idealize.ShloMosaic.Lib.Claim
public import Idealize.ShloMosaic.Lib.Pipeline.ValueKit.Point
public import Idealize.ShloMosaic.Lib.StableHlo.ReadAt
public import Idealize.ShloMosaic.Lib.Pointwise
public import Idealize.ShloMosaic.Lib.Tactic.CleanTypes

@[expose] public section

set_option maxRecDepth 16384

noncomputable section

/-! The blocks of a grid point, as parts of the arrays the host prefix lays out. -/

namespace Cert.KernelIdeal.Hand

open Cert.KernelIdeal Cert.KernelIdeal.Gen Idealize.ShloMosaic Idealize.ShloMosaic.TcCoe Cert.Din

variable (m : (ℓ : Loc nD τ sig) → Buf (Elt Ideal) ℓ) (c : Dev nD)

omit m c in
theorem idx_walk (t : Fin cfg0.N) : win0_0.index t = ![0, t.val % 32] ∧ win0_1.index t = ![0, t.val % 32] ∧ win0_2.index t = ![0, t.val % 32] ∧ win0_3.index t = ![0, t.val % 32] ∧ win0_4.index t = ![0, t.val % 32] ∧ win0_5.index t = ![0, t.val % 32] ∧ win0_6.index t = ![0, t.val % 32] ∧ win0_7.index t = ![0, t.val % 32] ∧ win0_8.index t = ![0, t.val % 32] ∧ win0_9.index t = ![0, t.val % 32] ∧ win0_10.index t = ![0, t.val % 32] ∧ win0_11.index t = ![0, t.val % 32] ∧ win0_12.index t = ![0, t.val % 32] := by
  revert t; decide +kernel

set_option maxHeartbeats 4000000 in
/-- The lane blocks step along their arrays. -/
theorem blk_lanes (t : Fin cfg0.N) : (∀ (l : Fin 25600) (p : t.val % 32 * 25600 + l.val < 819200), (XX m c t).a2 (ix2 0 l) = V m c main_v2 (ix2 0 ⟨t.val % 32 * 25600 + l.val, p⟩))
    ∧ (∀ (l : Fin 25600) (p : t.val % 32 * 25600 + l.val < 819200), (XX m c t).a3 (ix2 0 l) = V m c main_v5 (ix2 0 ⟨t.val % 32 * 25600 + l.val, p⟩))
    ∧ (∀ (l : Fin 25600) (p : t.val % 32 * 25600 + l.val < 819200), (XX m c t).a4 (ix2 0 l) = V m c main_v8 (ix2 0 ⟨t.val % 32 * 25600 + l.val, p⟩))
    ∧ (∀ (l : Fin 25600) (p : t.val % 32 * 25600 + l.val < 819200), (XX m c t).a5 (ix2 0 l) = V m c main_v14 (ix2 0 ⟨t.val % 32 * 25600 + l.val, p⟩))
    ∧ (∀ (l : Fin 25600) (p : t.val % 32 * 25600 + l.val < 819200), (XX m c t).a6 (ix2 0 l) = V m c main_v19 (ix2 0 ⟨t.val % 32 * 25600 + l.val, p⟩))
    ∧ (∀ (l : Fin 25600) (p : t.val % 32 * 25600 + l.val < 819200), (XX m c t).a7 (ix2 0 l) = V m c main_v24 (ix2 0 ⟨t.val % 32 * 25600 + l.val, p⟩)) := by
  refine ⟨?_, ?_, ?_, ?_, ?_, ?_⟩ <;> intro l p <;> dsimp only [XX] <;> blk_ext [iblk, idx_walk t]

set_option maxHeartbeats 4000000 in
/-- The column blocks step along their arrays. -/
theorem blk_cols (t : Fin cfg0.N) : (∀ (l : Fin 128) (p : t.val % 32 * 128 + l.val < 4096), (XX m c t).a8 (ix2 0 l) = V m c main_v27 (ix2 0 ⟨t.val % 32 * 128 + l.val, p⟩))
    ∧ (∀ (l : Fin 128) (p : t.val % 32 * 128 + l.val < 4096), (XX m c t).a9 (ix2 0 l) = V m c main_v30 (ix2 0 ⟨t.val % 32 * 128 + l.val, p⟩))
    ∧ (∀ (l : Fin 128) (p : t.val % 32 * 128 + l.val < 4096), (XX m c t).a10 (ix2 0 l) = V m c main_v33 (ix2 0 ⟨t.val % 32 * 128 + l.val, p⟩))
    ∧ (∀ (l : Fin 128) (p : t.val % 32 * 128 + l.val < 4096), (XX m c t).a11 (ix2 0 l) = V m c main_v36 (ix2 0 ⟨t.val % 32 * 128 + l.val, p⟩))
    ∧ (∀ (l : Fin 128) (p : t.val % 32 * 128 + l.val < 4096), (XX m c t).a12 (ix2 0 l) = V m c main_v39 (ix2 0 ⟨t.val % 32 * 128 + l.val, p⟩))
    ∧ (∀ (l : Fin 128) (p : t.val % 32 * 128 + l.val < 4096), (XX m c t).a13 (ix2 0 l) = V m c main_v42 (ix2 0 ⟨t.val % 32 * 128 + l.val, p⟩))
    ∧ (∀ (l : Fin 128) (p : t.val % 32 * 128 + l.val < 4096), (XX m c t).a14 (ix2 0 l) = V m c main_v45 (ix2 0 ⟨t.val % 32 * 128 + l.val, p⟩)) := by
  refine ⟨?_, ?_, ?_, ?_, ?_, ?_, ?_⟩ <;> intro l p <;> dsimp only [XX] <;> blk_ext [iblk, idx_walk t]

end Cert.KernelIdeal.Hand
-- ==== Proof.K.Blocks2.lean ====
module

public import proofs.«01_k».proof.Proof.Gen.KernelIdeal.Frame
public import proofs.«01_k».proof.Proof.K.Raw
public import proofs.«01_k».proof.Proof.K.LaunchKernelIdeal
public import proofs.«01_k».proof.Proof.K.Gather
public import proofs.«01_k».proof.Proof.K.Scatter
public import Idealize.ShloMosaic.Lib.Claim
public import Idealize.ShloMosaic.Lib.Pipeline.ValueKit.Point
public import Idealize.ShloMosaic.Lib.StableHlo.ReadAt
public import Idealize.ShloMosaic.Lib.Pointwise
public import Idealize.ShloMosaic.Lib.Tactic.CleanTypes

@[expose] public section

set_option maxRecDepth 16384

noncomputable section

/-! The blocks of a grid point, as parts of the arrays the host prefix lays out. -/

namespace Cert.KernelIdeal.Hand

open Cert.KernelIdeal Cert.KernelIdeal.Gen Idealize.ShloMosaic Idealize.ShloMosaic.TcCoe Cert.Din

variable (m : (ℓ : Loc nD τ sig) → Buf (Elt Ideal) ℓ) (c : Dev nD)

omit m c in
theorem idx_whole (t : Fin cfg0.N) : win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0] ∧ win0_24.index t = ![0, 0] ∧ win0_25.index t = ![0, 0] ∧ win0_26.index t = ![0, 0] ∧ win0_27.index t = ![0, 0] ∧ win0_28.index t = ![0, 0] ∧ win0_29.index t = ![0, 0] ∧ win0_30.index t = ![0, 0] ∧ win0_31.index t = ![0, 0] ∧ win0_32.index t = ![0, 0] ∧ win0_33.index t = ![0, 0] := by
  revert t; decide +kernel

set_option maxHeartbeats 4000000 in
/-- The tables are read whole. -/
theorem blk_tables (t : Fin cfg0.N) : (∀ (j : Fin 8) (k : Fin 128), (XX m c t).a15 (ix2 j k) = V m c main_v50 (ix2 j k))
    ∧ (∀ (j : Fin 8) (k : Fin 128), (XX m c t).a16 (ix2 j k) = V m c main_v55 (ix2 j k))
    ∧ (∀ (j : Fin 8) (k : Fin 128), (XX m c t).a17 (ix2 j k) = V m c main_v60 (ix2 j k))
    ∧ (∀ (j : Fin 8) (k : Fin 128), (XX m c t).a18 (ix2 j k) = V m c main_v65 (ix2 j k))
    ∧ (∀ (j : Fin 8) (k : Fin 128), (XX m c t).a19 (ix2 j k) = V m c main_v70 (ix2 j k))
    ∧ (∀ (j : Fin 8) (k : Fin 128), (XX m c t).a20 (ix2 j k) = V m c main_v75 (ix2 j k))
    ∧ (∀ (j : Fin 8) (k : Fin 128), (XX m c t).a21 (ix2 j k) = V m c main_v80 (ix2 j k)) := by
  refine ⟨?_, ?_, ?_, ?_, ?_, ?_, ?_⟩ <;> intro l p <;> dsimp only [XX] <;> blk_ext [iblk, idx_whole t]

set_option maxHeartbeats 4000000 in
/-- The weights of the unit are read whole. -/
theorem blk_weights (t : Fin cfg0.N) : (∀ (j : Fin 36) (k : Fin 72), (XX m c t).a22 (ix2 j k) = V m c main_v88 (ix2 j k))
    ∧ (∀ (j : Fin 36) (k : Fin 1), (XX m c t).a23 (ix2 j k) = V m c main_v95 (ix2 j k))
    ∧ (∀ (j : Fin 36) (k : Fin 1), (XX m c t).a24 (ix2 j k) = V m c main_v96 (ix2 j k))
    ∧ (∀ (j : Fin 36) (k : Fin 1), (XX m c t).a25 (ix2 j k) = V m c main_v98 (ix2 j k))
    ∧ (∀ (j : Fin 1) (k : Fin 1), (XX m c t).a26 (ix2 j k) = V m c main_v99 (ix2 j k))
    ∧ (∀ (j : Fin 25600) (k : Fin 128), (XX m c t).a27 (ix2 j k) = V m c main_v94 (ix2 j k)) := by
  refine ⟨?_, ?_, ?_, ?_, ?_, ?_⟩ <;> intro l p <;> dsimp only [XX] <;> blk_ext [iblk, idx_whole t]

end Cert.KernelIdeal.Hand
-- ==== Proof.K.Blocks3.lean ====
module

public import proofs.«01_k».proof.Proof.Gen.KernelIdeal.Frame
public import proofs.«01_k».proof.Proof.K.Raw
public import proofs.«01_k».proof.Proof.K.LaunchKernelIdeal
public import proofs.«01_k».proof.Proof.K.Blocks2
public import proofs.«01_k».proof.Proof.K.Gather
public import proofs.«01_k».proof.Proof.K.Scatter
public import Idealize.ShloMosaic.Lib.Claim
public import Idealize.ShloMosaic.Lib.Pipeline.ValueKit.Point
public import Idealize.ShloMosaic.Lib.StableHlo.ReadAt
public import Idealize.ShloMosaic.Lib.Pointwise
public import Idealize.ShloMosaic.Lib.Tactic.CleanTypes

@[expose] public section

set_option maxRecDepth 16384

noncomputable section

/-! The blocks of a grid point, as parts of the arrays the host prefix lays out. -/

namespace Cert.KernelIdeal.Hand

open Cert.KernelIdeal Cert.KernelIdeal.Gen Idealize.ShloMosaic Idealize.ShloMosaic.TcCoe Cert.Din

variable (m : (ℓ : Loc nD τ sig) → Buf (Elt Ideal) ℓ) (c : Dev nD)

set_option maxHeartbeats 4000000 in
/-- The weights of the dense layers are read whole. -/
theorem blk_dense (t : Fin cfg0.N) : (∀ (j : Fin 200) (k : Fin 80), (XX m c t).a28 (ix2 j k) = V m c main_v100 (ix2 j k))
    ∧ (∀ (j : Fin 200) (k : Fin 1), (XX m c t).a29 (ix2 j k) = V m c main_v101 (ix2 j k))
    ∧ (∀ (j : Fin 200) (k : Fin 1), (XX m c t).a30 (ix2 j k) = V m c main_v102 (ix2 j k))
    ∧ (∀ (j : Fin 80) (k : Fin 200), (XX m c t).a31 (ix2 j k) = V m c main_v103 (ix2 j k))
    ∧ (∀ (j : Fin 80) (k : Fin 1), (XX m c t).a32 (ix2 j k) = V m c main_v104 (ix2 j k))
    ∧ (∀ (j : Fin 80) (k : Fin 1), (XX m c t).a33 (ix2 j k) = V m c main_v105 (ix2 j k))
    ∧ (∀ (j : Fin 2) (k : Fin 80), (XX m c t).a34 (ix2 j k) = V m c main_v106 (ix2 j k))
    ∧ (∀ (j : Fin 2) (k : Fin 1), (XX m c t).a35 (ix2 j k) = V m c main_v107 (ix2 j k)) := by
  refine ⟨?_, ?_, ?_, ?_, ?_, ?_, ?_, ?_⟩ <;> intro l p <;> dsimp only [XX] <;> blk_ext [iblk, idx_whole t]

end Cert.KernelIdeal.Hand
-- ==== Proof.K.KHolds.lean ====
module

public import proofs.«01_k».proof.Proof.K.Holds
public import proofs.«01_k».proof.Proof.K.HostA
public import proofs.«01_k».proof.Proof.K.HostB
public import proofs.«01_k».proof.Proof.K.HostC
public import proofs.«01_k».proof.Proof.K.Blocks
public import proofs.«01_k».proof.Proof.K.Blocks2
public import proofs.«01_k».proof.Proof.K.Blocks3

@[expose] public section

set_option maxRecDepth 16384

noncomputable section

/-! The blocks of a grid point hold the parts of the arguments they should. -/

namespace Cert.KernelIdeal.Hand

open Cert.KernelIdeal Cert.KernelIdeal.Gen Idealize.ShloMosaic Cert.Din

variable (m : (ℓ : Loc nD τ sig) → Buf (Elt Idealize.ShloMosaic.Ideal) ℓ) (c : Dev nD)

omit m c in
theorem row_lane (i l : ℕ) : (i * 25600 + l) / 200 = i * 128 + l / 200 := by omega

omit m c in
theorem time_lane (i l : ℕ) : (i * 25600 + l) % 200 = l % 200 := by omega

set_option maxHeartbeats 1000000 in
theorem holds (t : Fin cfg0.N) (q : t.val % 32 < 32) : Holds (rawK m c) ⟨t.val % 32, q⟩ (XX m c t) := by
  obtain ⟨l0, l1, l2, l3, l4, l5⟩ := blk_lanes m c t
  obtain ⟨l6, l7, l8, l9, l10, l11, l12⟩ := blk_cols m c t
  obtain ⟨l13, l14, l15, l16, l17, l18, l19⟩ := blk_tables m c t
  obtain ⟨l20, l21, l22, l23, l24, l25⟩ := blk_weights m c t
  obtain ⟨l26, l27, l28, l29, l30, l31, l32, l33⟩ := blk_dense m c t
  obtain ⟨t0, t1, t2⟩ := ad_tables m c
  obtain ⟨t5, t6⟩ := cx_tables m c
  have p : ∀ l : Fin 25600, t.val % 32 * 25600 + l.val < 819200 := fun l => by omega
  have r : ∀ n : Fin 128, t.val % 32 * 128 + n.val < 4096 := fun n => by omega
  exact
  { ub0 := fun l => (l0 l (p l)).trans ((v2_at m c _).trans (congrArg₂ (fun b t => (rawK m c).beh b t 0) (Fin.ext (row_lane _ _)) (Fin.ext (time_lane _ _))))
    ub1 := fun l => (l1 l (p l)).trans ((v5_at m c _).trans (congrArg₂ (fun b t => (rawK m c).beh b t 1) (Fin.ext (row_lane _ _)) (Fin.ext (time_lane _ _))))
    ub2 := fun l => (l2 l (p l)).trans ((v8_at m c _).trans (congrArg₂ (fun b t => (rawK m c).beh b t 2) (Fin.ext (row_lane _ _)) (Fin.ext (time_lane _ _))))
    cr0 := fun l => (l3 l (p l)).trans ((v14_at m c _).trans (congrArg (fun b => (rawK m c).ad b 0) (Fin.ext (row_lane _ _))))
    cr1 := fun l => (l4 l (p l)).trans ((v19_at m c _).trans (congrArg (fun b => (rawK m c).ad b 1) (Fin.ext (row_lane _ _))))
    cr2 := fun l => (l5 l (p l)).trans ((v24_at m c _).trans (congrArg (fun b => (rawK m c).ad b 2) (Fin.ext (row_lane _ _))))
    ca0 := fun n => (l6 n (r n)).trans (v27_at m c _)
    ca1 := fun n => (l7 n (r n)).trans (v30_at m c _)
    ca2 := fun n => (l8 n (r n)).trans (v33_at m c _)
    up0 := fun n => (l9 n (r n)).trans (v36_at m c _)
    up1 := fun n => (l10 n (r n)).trans (v39_at m c _)
    cx0 := fun n => (l11 n (r n)).trans (v42_at m c _)
    cx1 := fun n => (l12 n (r n)).trans (v45_at m c _)
    ad0 := fun w h r => (l13 _ _).trans (t0 w h r)
    ad1 := fun w h r => (l14 _ _).trans (t1 w h r)
    ad2 := fun w h r => (l15 _ _).trans (t2 w h r)
    ut0 := fun w h r => (l16 _ _).trans (up_tables m c w h r)
    ut1 := fun w h r => (l17 _ _).trans (up_table1 m c w (by omega) r)
    ct0 := fun w h r => (l18 _ _).trans (t5 w h r)
    ct1 := fun w h r => (l19 _ _).trans (t6 w h r)
    w0 := fun j k => (l20 _ _).trans (v88_at0 m c j k)
    w1 := fun j k => (l20 _ _).trans (v88_at1 m c j k)
    w2 := fun j k => (l20 _ _).trans (v88_at2 m c j k)
    bu := fun j => (l21 _ _).trans (v95_at m c j)
    au := fun j => (l22 _ _).trans (v96_at m c j)
    Wu := fun j => (l23 _ _).trans (v98_at m c j)
    cu := (l24 _ _).trans (v99_at m c)
    sel := fun l n => (l25 _ _).trans (v94_at m c l n)
    W1 := fun j k => (l26 _ _).trans (v100_at m c j k)
    W2 := fun j k => (l29 _ _).trans (v103_at m c j k)
    W3 := fun j k => (l32 _ _).trans (v106_at m c j k)
    b1 := fun j => (l27 _ _).trans (v101_at m c j)
    a1 := fun j => (l28 _ _).trans (v102_at m c j)
    b2 := fun j => (l30 _ _).trans (v104_at m c j)
    a2 := fun j => (l31 _ _).trans (v105_at m c j)
    b3 := fun j => (l33 _ _).trans (v107_at m c j) }

end Cert.KernelIdeal.Hand
-- ==== Proof.K.KVal1.lean ====
module

public import proofs.«01_k».proof.Proof.K.Holds
public import Idealize.ShloMosaic.Lib.Pointwise

@[expose] public section

set_option maxRecDepth 16384

noncomputable section

/-! The rows a block looks up, and its activation unit's first layer. -/

namespace Cert.KernelIdeal.Hand

open Cert.KernelIdeal Cert.KernelIdeal.Gen Idealize.ShloMosaic Cert.Din

variable {R : Raw} (G : R.Good) {i : Fin 32} {X : Xs Ideal} (H : Holds R i X)

include G H

theorem vE_eq (j : Fin 24) (l : Fin 25600) : vE X (ix2 j l) = ((R.args.E (bOf i l) (tOf l) j : ℝ) : EReal) := by
  have g0 := G.beh (bOf i l) (tOf l) 0
  have g1 := G.beh (bOf i l) (tOf l) 1
  have g2 := G.beh (bOf i l) (tOf l) 2
  unfold vE
  pointwise [k0_pay22, k0_pay21, k0_pay20, k0_pay19, k0_pay18, k0_pay17]
  by_cases h1 : j.val < 8
  · rw [dif_pos h1]
    refine (look le_rfl X.a15 _ _ _ g0 (H.ad0 _ g0) (H.ub0 l) _ ⟨j.val, h1⟩ _ ?_ ?_).trans (R.E_at G _ _ 0 _ j ?_)
    · dsimp only; omega
    · dsimp only
    · simp
  rw [dif_neg h1]
  by_cases h2 : j.val - 8 < 8
  · rw [dif_pos h2]
    refine (look le_rfl X.a16 _ _ _ g1 (H.ad1 _ g1) (H.ub1 l) _ ⟨j.val - 8, h2⟩ _ ?_ ?_).trans (R.E_at G _ _ 1 _ j ?_)
    · dsimp only; omega
    · dsimp only
    · simp; omega
  rw [dif_neg h2]
  refine (look le_rfl X.a17 _ _ _ g2 (H.ad2 _ g2) (H.ub2 l) _ ⟨j.val - 8 - 8, by omega⟩ _ ?_ ?_).trans (R.E_at G _ _ 2 _ j ?_)
  · dsimp only; omega
  · dsimp only
  · simp; omega

theorem vF0_eq (j : Fin 24) (l : Fin 25600) : vF X (ix2 ⟨j.val, by omega⟩ l) = ((R.args.E (bOf i l) (tOf l) j : ℝ) : EReal) := by
  have h1 : j.val < 24 := j.isLt
  unfold vF
  pointwise [k0_pay24, k0_pay23]
  exact vE_eq G H j l

theorem vF1_eq (j : Fin 24) (l : Fin 25600) : vF X (ix2 ⟨24 + j.val, by omega⟩ l) = ((R.args.Q (bOf i l) j : ℝ) : EReal) := by
  have g0 := G.ad (bOf i l) 0
  have g1 := G.ad (bOf i l) 1
  have g2 := G.ad (bOf i l) 2
  unfold vF
  pointwise [k0_pay24, k0_pay23]
  by_cases h1 : j.val < 8
  · rw [dif_pos h1]
    refine (look le_rfl X.a15 _ _ _ g0 (H.ad0 _ g0) (H.cr0 l) _ ⟨j.val, by omega⟩ _ ?_ ?_).trans (R.Q_at G _ 0 _ j ?_)
    · dsimp only; omega
    · dsimp only
    · simp
  rw [dif_neg h1]
  by_cases h2 : j.val - 8 < 8
  · rw [dif_pos h2]
    refine (look le_rfl X.a16 _ _ _ g1 (H.ad1 _ g1) (H.cr1 l) _ ⟨j.val - 8, by omega⟩ _ ?_ ?_).trans (R.Q_at G _ 1 _ j ?_)
    · dsimp only; omega
    · dsimp only
    · simp; omega
  rw [dif_neg h2]
  refine (look le_rfl X.a17 _ _ _ g2 (H.ad2 _ g2) (H.cr2 l) _ ⟨j.val - 8 - 8, by omega⟩ _ ?_ ?_).trans (R.Q_at G _ 2 _ j ?_)
  · dsimp only; omega
  · dsimp only
  · simp; omega

theorem vF2_eq (j : Fin 24) (l : Fin 25600) : vF X (ix2 ⟨48 + j.val, by omega⟩ l)
    = ((R.args.E (bOf i l) (tOf l) j : ℝ) : EReal) * ((R.args.Q (bOf i l) j : ℝ) : EReal) := by
  have g0 := G.ad (bOf i l) 0
  have g1 := G.ad (bOf i l) 1
  have g2 := G.ad (bOf i l) 2
  unfold vF
  pointwise [k0_pay24, k0_pay23]
  rw [dif_neg (by omega), dif_neg (by omega)]
  refine congrArg₂ (· * ·) ?_ ?_
  · rw [← vE_eq G H j l]
    exact congrArg (fun p => vE X (ix2 p l)) (Fin.ext (by dsimp only; omega))
  by_cases h1 : 48 + j.val - 24 - 24 < 8
  · rw [dif_pos h1]
    refine (look le_rfl X.a15 _ _ _ g0 (H.ad0 _ g0) (H.cr0 l) _ ⟨j.val, by omega⟩ _ ?_ ?_).trans (R.Q_at G _ 0 _ j ?_)
    · dsimp only; omega
    · dsimp only
    · simp
  rw [dif_neg h1]
  by_cases h2 : 48 + j.val - 24 - 24 - 8 < 8
  · rw [dif_pos h2]
    refine (look le_rfl X.a16 _ _ _ g1 (H.ad1 _ g1) (H.cr1 l) _ ⟨j.val - 8, by omega⟩ _ ?_ ?_).trans (R.Q_at G _ 1 _ j ?_)
    · dsimp only; omega
    · dsimp only
    · simp; omega
  rw [dif_neg h2]
  refine (look le_rfl X.a17 _ _ _ g2 (H.ad2 _ g2) (H.cr2 l) _ ⟨j.val - 8 - 8, by omega⟩ _ ?_ ?_).trans (R.Q_at G _ 2 _ j ?_)
  · dsimp only; omega
  · dsimp only
  · simp; omega

omit G H in
theorem sum72 (f : Fin (24 + (24 + 24)) → EReal) : ∑ k, f k
    = ∑ d : Fin 24, (f ⟨d.val, by omega⟩ + f ⟨24 + d.val, by omega⟩ + f ⟨48 + d.val, by omega⟩) := by
  rw [Fin.sum_univ_add, Fin.sum_univ_add]
  simp only [Finset.sum_add_distrib]
  simp only [← add_assoc]
  congr 1

theorem vA_eq (j : Fin 36) (l : Fin 25600) : vA X (ix2 j l) = ((R.args.act (bOf i l) (tOf l) j : ℝ) : EReal) := by
  have hW : ∀ k, R.W k j = ((R.args.W k j : ℝ) : EReal) := fun k => G.W k j
  unfold vA
  pointwise [k0_pay1]
  rw [H.bu, show R.bu j = ((R.args.bu j : ℝ) : EReal) from G.bu j, Args.act, R.args.sum_feat, EReal.coe_add, ← coe_sum]
  refine congrArg (· + _) ((sum72 _).trans (Finset.sum_congr rfl fun d _ => ?_))
  rw [H.w0, H.w1, H.w2, vF0_eq G H, vF1_eq G H, vF2_eq G H]
  simp only [hW]
  simp only [← EReal.coe_add, ← EReal.coe_sub, ← EReal.coe_mul]
  congr 1
  ring

end Cert.KernelIdeal.Hand
-- ==== Proof.K.KVal2.lean ====
module

public import proofs.«01_k».proof.Proof.K.KVal1
public import Idealize.ShloMosaic.Lib.Pointwise
public import Idealize.ShloMosaic.Lib.Pipeline.ValueKit.Tiles

@[expose] public section

set_option maxRecDepth 16384

noncomputable section

/-! The statistics of the first pass, and the pooled rows of the second. -/

namespace Cert.KernelIdeal.Hand

open Cert.KernelIdeal Cert.KernelIdeal.Gen Idealize.ShloMosaic Cert.Din

theorem ld_overlay_same {S : Shape} {e : EltTy} (r : Rect S) (s : Vec Ideal S e) (P : r.shape.Idx → Elt Ideal e) : View.ld (r.overlay s P) r = P :=
  funext fun x => r.overlay_emb s P x

theorem ld_overlay_other {S : Shape} {e : EltTy} (r q : Rect S) (s : Vec Ideal S e) (P : q.shape.Idx → Elt Ideal e) (h : ∀ x, r.idx x ∉ q.set) :
    View.ld (q.overlay s P) r = View.ld s r :=
  funext fun x => q.overlay_of_not_mem s P (h x)

theorem rS0_notin (x : rS0.shape.Idx) : rS0.idx x ∉ rS1.set := by
  intro h
  have h1 := (Rect.mem_set_unit.1 h 1).1
  have h2 : ((rS0.idx x) 1).val = 0 + (x 1).val := Rect.idx_unit_val _ _ _ x 1
  have h3 : (x 1).val < 1 := (x 1).isLt
  have h4 : 1 ≤ ((rS0.idx x) 1).val := h1
  omega

theorem rS1_notin (x : rS1.shape.Idx) : rS1.idx x ∉ rS0.set := by
  intro h
  have h1 := (Rect.mem_set_unit.1 h 1).2
  have h2 : ((rS1.idx x) 1).val = 1 + (x 1).val := Rect.idx_unit_val _ _ _ x 1
  have h4 : ((rS1.idx x) 1).val < 0 + 1 := h1
  omega

theorem st_col0 (X : Xs Ideal) (s : Vec Ideal S40x128 .f32) (j : Fin 36) :
    View.ld (st1 X s) rS0 (ix2 j 0) = View.ld s rS0 (ix2 j 0) + ∑ l, vA X (ix2 j l) := by
  unfold st1
  rw [ld_overlay_other _ _ _ _ rS0_notin]
  unfold st0
  rw [ld_overlay_same]
  unfold vA
  pointwise [k0_pay2]

theorem st_col1 (X : Xs Ideal) (s : Vec Ideal S40x128 .f32) (j : Fin 36) :
    View.ld (st1 X s) rS1 (ix2 j 0) = View.ld s rS1 (ix2 j 0) + ∑ l, vA X (ix2 j l) * vA X (ix2 j l) := by
  unfold st1
  rw [ld_overlay_same]
  unfold st0
  rw [ld_overlay_other _ _ _ _ rS1_notin]
  unfold vA
  pointwise [k0_pay3]

theorem ld_col0 (s : Vec Ideal S40x128 .f32) (j : Fin 36) : View.ld s rS0 (ix2 j 0) = s (ix2 ⟨j.val, by omega⟩ 0) := by
  pointwise

theorem ld_col1 (s : Vec Ideal S40x128 .f32) (j : Fin 36) : View.ld s rS1 (ix2 j 0) = s (ix2 ⟨j.val, by omega⟩ 1) := by
  pointwise

theorem zero_col (x : S40x128.Idx) : (k0_pay16 : FVec Ideal S40x128 .f32) x = ((0 : ℝ) : EReal) := by
  unfold k0_pay16
  show Ideal.ofBits .f32 0x00000000#32 = _
  simp [Ideal.ofBits, Ideal.ieee]

/-- A sum over the blocks' lanes is a sum over the batch and time. -/
theorem sum_lanes (f : Fin 4096 → Fin 200 → ℝ) :
    ∑ n ∈ Finset.range 32, ∑ l : Fin 25600, f (bOf ⟨n % 32, Nat.mod_lt _ (Nat.zero_lt_succ 31)⟩ l) (tOf l) = ∑ b, ∑ t, f b t := by
  rw [Finset.sum_range]
  refine ((Finset.sum_congr rfl fun i _ => ?_).trans (sum_groups 32 128 fun b : Fin 4096 => ∑ t, f b t).symm)
  refine (sum_groups 128 200 _).trans (Finset.sum_congr rfl fun p _ => Finset.sum_congr rfl fun t _ => ?_)
  refine congrArg₂ f (Fin.ext ?_) (Fin.ext ?_)
  · show i.val % 32 * 128 + (p.val * 200 + t.val) / 200 = i.val * 128 + p.val
    omega
  · show (p.val * 200 + t.val) % 200 = t.val
    omega

section Stats

variable {R : Raw} (G : R.Good) (Xk : ℕ → Xs Ideal) (s : ℕ → Vec Ideal S40x128 .f32) (h0 : s 0 = (k0_pay16 : FVec Ideal S40x128 .f32))
  (hs : ∀ n, n < 32 → s (n + 1) = st1 (Xk n) (s n)) (H : ∀ n, n < 32 → Holds R ⟨n % 32, Nat.mod_lt _ (Nat.zero_lt_succ 31)⟩ (Xk n))

include G h0 hs H

theorem col0 (j : Fin 36) : s 32 (ix2 ⟨j.val, by omega⟩ 0) = ((∑ b, ∑ t, R.args.act b t j : ℝ) : EReal) := by
  rw [← ld_col0 (s 32) j, ← sum_lanes fun b t => R.args.act b t j]
  have h : ∀ n, n ≤ 32 → View.ld (s n) rS0 (ix2 j 0) = ((∑ n ∈ Finset.range n, ∑ l : Fin 25600, R.args.act (bOf ⟨n % 32, Nat.mod_lt _ (Nat.zero_lt_succ 31)⟩ l) (tOf l) j : ℝ) : EReal) := by
    intro n
    induction n with
    | zero => intro _; rw [h0, Finset.sum_range_zero]; exact zero_col _
    | succ n ih =>
      intro hn
      rw [hs n (by omega), st_col0, ih (by omega), Finset.sum_range_succ, EReal.coe_add]
      refine congrArg (_ + ·) ?_
      rw [← coe_sum]
      exact Finset.sum_congr rfl fun l _ => vA_eq G (H n (by omega)) j l
  exact h 32 le_rfl

theorem col1 (j : Fin 36) : s 32 (ix2 ⟨j.val, by omega⟩ 1) = ((∑ b, ∑ t, R.args.act b t j * R.args.act b t j : ℝ) : EReal) := by
  rw [← ld_col1 (s 32) j, ← sum_lanes fun b t => R.args.act b t j * R.args.act b t j]
  have h : ∀ n, n ≤ 32 → View.ld (s n) rS1 (ix2 j 0) = ((∑ n ∈ Finset.range n, ∑ l : Fin 25600, R.args.act (bOf ⟨n % 32, Nat.mod_lt _ (Nat.zero_lt_succ 31)⟩ l) (tOf l) j
      * R.args.act (bOf ⟨n % 32, Nat.mod_lt _ (Nat.zero_lt_succ 31)⟩ l) (tOf l) j : ℝ) : EReal) := by
    intro n
    induction n with
    | zero => intro _; rw [h0, Finset.sum_range_zero]; exact zero_col _
    | succ n ih =>
      intro hn
      rw [hs n (by omega), st_col1, ih (by omega), Finset.sum_range_succ, EReal.coe_add]
      refine congrArg (_ + ·) ?_
      rw [← coe_sum]
      refine Finset.sum_congr rfl fun l _ => ?_
      rw [vA_eq G (H n (by omega)) j l, EReal.coe_mul]
  exact h 32 le_rfl

end Stats

end Cert.KernelIdeal.Hand
-- ==== Proof.K.KVal3.lean ====
module

public import proofs.«01_k».proof.Proof.K.KVal1
public import Idealize.ShloMosaic.Lib.Pointwise

@[expose] public section

set_option maxRecDepth 16384

noncomputable section

/-! The pooled rows of one block. -/

namespace Cert.KernelIdeal.Hand

open Cert.KernelIdeal Cert.KernelIdeal.Gen Idealize.ShloMosaic Cert.Din

variable {R : Raw} (G : R.Good) {i : Fin 32} {X : Xs Ideal} (H : Holds R i X) (s : Vec Ideal S40x128 .f32)

/-- The lanes of one column of the block. -/
theorem sum_pick (f : Fin 25600 → ℝ) (n : Fin 128) :
    ∑ l, (f l : EReal) * (if l.val / 200 = n.val then (1 : EReal) else 0) = ((∑ t : Fin 200, f ⟨n.val * 200 + t.val, by omega⟩ : ℝ) : EReal) := by
  rw [← coe_sum]
  refine (sum_groups 128 200 _).trans ((Finset.sum_eq_single n (fun p _ hp => ?_) (fun h => absurd (Finset.mem_univ _) h)).trans ?_)
  · refine Finset.sum_eq_zero fun t _ => ?_
    have : ¬ (p.val * 200 + t.val) / 200 = n.val := fun h => hp (Fin.ext (by omega))
    dsimp only
    rw [if_neg this, mul_zero]
  · refine Finset.sum_congr rfl fun t _ => ?_
    have : (n.val * 200 + t.val) / 200 = n.val := by omega
    dsimp only
    rw [if_pos this, mul_one]

include G H

theorem vW_eq
    (h0 : ∀ j : Fin 36, s (ix2 ⟨j.val, by omega⟩ 0) = ((∑ b, ∑ t, R.args.act b t j : ℝ) : EReal))
    (h1 : ∀ j : Fin 36, s (ix2 ⟨j.val, by omega⟩ 1) = ((∑ b, ∑ t, R.args.act b t j * R.args.act b t j : ℝ) : EReal))
    (d : Fin 24) (n : Fin 128) : vW X s (ix2 d n) = ((R.args.pooled (cOf i n) d : ℝ) : EReal) := by
  have hm : ∀ j : Fin 36, Ideal.div (s (ix2 ⟨j.val, by omega⟩ 0)) (Ideal.ofBits .f32 0x49480000#32) = ((R.args.actMean j : ℝ) : EReal) := fun j => by
    rw [h0, ofBits_rows, div_coe _ _ (by norm_num)]; rfl
  have hv : ∀ j : Fin 36, Ideal.div (s (ix2 ⟨j.val, by omega⟩ 1)) (Ideal.ofBits .f32 0x49480000#32) - ((R.args.actMean j : ℝ) : EReal) * ((R.args.actMean j : ℝ) : EReal)
      = ((R.args.actVar j : ℝ) : EReal) := fun j => by
    rw [h1, ofBits_rows, div_coe _ _ (by norm_num), R.args.actVar_eq, EReal.coe_sub, EReal.coe_mul]
  unfold vW
  pointwise [k0_pay5]
  simp only [hm, hv, vE_eq G H, vA_eq G H, H.au, H.Wu, H.cu, H.sel]
  have hau : ∀ j, R.au j = ((R.args.au j : ℝ) : EReal) := fun j => G.au j
  have hWu : ∀ j, R.Wu j = ((R.args.Wu j : ℝ) : EReal) := fun j => G.Wu j
  have hcu : R.cu = ((R.args.cu : ℝ) : EReal) := G.cu
  simp only [hau, hWu, hcu, fun x α j => dice_gate x (R.args.actMean j) (R.args.actVar j) α (R.args.actVar_nonneg j)]
  simp only [← EReal.coe_mul, coe_sum, ← EReal.coe_add]
  refine (sum_pick (fun l => R.args.E (bOf i l) (tOf l) d * R.args.score (bOf i l) (tOf l)) n).trans (congrArg _ ?_)
  refine Finset.sum_congr rfl fun t _ => ?_
  have e1 : bOf i ⟨n.val * 200 + t.val, by omega⟩ = cOf i n := Fin.ext (by
    show i.val * 128 + (n.val * 200 + t.val) / 200 = i.val * 128 + n.val
    omega)
  have e2 : tOf ⟨n.val * 200 + t.val, by omega⟩ = t := Fin.ext (by
    show (n.val * 200 + t.val) % 200 = t.val
    omega)
  rw [e1, e2]

end Cert.KernelIdeal.Hand
-- ==== Proof.K.KVal4.lean ====
module

public import proofs.«01_k».proof.Proof.K.KVal3
public import Idealize.ShloMosaic.Lib.Pointwise

@[expose] public section

set_option maxRecDepth 16384

noncomputable section

/-! The feature columns of one block. -/

namespace Cert.KernelIdeal.Hand

open Cert.KernelIdeal Cert.KernelIdeal.Gen Idealize.ShloMosaic Cert.Din

theorem row_U (A : Args) (b : Fin 4096) (k : Fin 80) (h : k.val < 16) : A.row b k = A.U b ⟨k.val, h⟩ := by
  unfold Args.row; rw [dif_pos h]

theorem row_P (A : Args) (b : Fin 4096) (k : Fin 80) (h : ¬ k.val < 16) (h1 : k.val - 16 < 24) : A.row b k = A.pooled b ⟨k.val - 16, h1⟩ := by
  unfold Args.row; rw [dif_neg h, dif_pos h1]

theorem row_Q (A : Args) (b : Fin 4096) (k : Fin 80) (h : ¬ k.val < 16) (h1 : ¬ k.val - 16 < 24) (h2 : k.val - 16 - 24 < 24) :
    A.row b k = A.Q b ⟨k.val - 16 - 24, h2⟩ := by
  unfold Args.row; rw [dif_neg h, dif_neg h1, dif_pos h2]

theorem row_C (A : Args) (b : Fin 4096) (k : Fin 80) (h : ¬ k.val < 16) (h1 : ¬ k.val - 16 < 24) (h2 : ¬ k.val - 16 - 24 < 24) :
    A.row b k = A.C b ⟨k.val - 16 - 24 - 24, by omega⟩ := by
  unfold Args.row; rw [dif_neg h, dif_neg h1, dif_neg h2]

variable {R : Raw} (G : R.Good) {i : Fin 32} {X : Xs Ideal} (H : Holds R i X)

include G H

theorem u0_eq (r : Fin 8) (n : Fin 128) (d : Fin 16) (hd : d.val = r.val) : k0_pay11 X.a18 X.a11 (ix2 r n) = ((R.args.U (cOf i n) d : ℝ) : EReal) := by
  have p := G.up (cOf i n) 0
  pointwise [k0_pay11]
  refine (look (by omega) X.a18 _ _ _ p (H.ut0 _ p) (H.up0 n) _ r _ ?_ ?_).trans (R.U_at G _ 0 r d ?_)
  · rfl
  · rfl
  · simp; omega

theorem u1_eq (r : Fin 8) (n : Fin 128) (d : Fin 16) (hd : d.val = 8 + r.val) : k0_pay12 X.a19 X.a12 (ix2 r n) = ((R.args.U (cOf i n) d : ℝ) : EReal) := by
  have p := G.up (cOf i n) 1
  pointwise [k0_pay12]
  refine (look (by omega) X.a19 _ _ _ p (H.ut1 _ p) (H.up1 n) _ r _ ?_ ?_).trans (R.U_at G _ 1 r d ?_)
  · rfl
  · rfl
  · simp; omega

theorem q_eq (d : Fin 24) (n : Fin 128) : k0_pay10 (k0_pay6 X.a15 X.a8) (k0_pay7 X.a16 X.a9) (k0_pay8 X.a10) (k0_pay9 X.a17) (ix2 d n)
    = ((R.args.Q (cOf i n) d : ℝ) : EReal) := by
  have g0 := G.ad (cOf i n) 0
  have g1 := G.ad (cOf i n) 1
  have g2 := G.ad (cOf i n) 2
  pointwise [k0_pay10, k0_pay9, k0_pay8, k0_pay7, k0_pay6]
  by_cases h1 : d.val < 8
  · rw [dif_pos h1]
    refine (look le_rfl X.a15 _ _ _ g0 (H.ad0 _ g0) (H.ca0 n) _ ⟨d.val, h1⟩ _ ?_ ?_).trans (R.Q_at G _ 0 _ d ?_)
    · dsimp only
    · dsimp only
    · simp
  rw [dif_neg h1]
  by_cases h2 : d.val - 8 < 8
  · rw [dif_pos h2]
    refine (look le_rfl X.a16 _ _ _ g1 (H.ad1 _ g1) (H.ca1 n) _ ⟨d.val - 8, h2⟩ _ ?_ ?_).trans (R.Q_at G _ 1 _ d ?_)
    · dsimp only
    · dsimp only
    · simp; omega
  rw [dif_neg h2]
  refine (look le_rfl X.a17 _ _ _ g2 (H.ad2 _ g2) (H.ca2 n) _ ⟨d.val - 8 - 8, by omega⟩ _ ?_ ?_).trans (R.Q_at G _ 2 _ d ?_)
  · dsimp only
  · dsimp only
  · simp; omega

/-- The last part of the columns: the context's rows. -/
theorem c_eq (u0 u1 : FVec Ideal S8x128 .f32) (w q : FVec Ideal S24x128 .f32) (d : Fin 16) (n : Fin 128) :
    k0_pay13 w q u0 u1 X.a20 X.a13 X.a21 X.a14 (ix2 ⟨64 + d.val, by omega⟩ n) = ((R.args.C (cOf i n) d : ℝ) : EReal) := by
  have g0 := G.cx (cOf i n) 0
  have g1 := G.cx (cOf i n) 1
  pointwise [k0_pay13]
  rw [dif_neg (by omega), dif_neg (by omega), dif_neg (by omega)]
  by_cases h1 : 64 + d.val - 16 - 24 - 24 < 8
  · rw [dif_pos h1]
    refine (look (by omega) X.a20 _ _ _ g0 (H.ct0 _ g0) (H.cx0 n) _ ⟨d.val, by omega⟩ _ ?_ ?_).trans (R.C_at G _ 0 _ d ?_)
    · dsimp only; omega
    · dsimp only
    · simp
  rw [dif_neg h1]
  refine (look (by omega) X.a21 _ _ _ g1 (H.ct1 _ g1) (H.cx1 n) _ ⟨d.val - 8, by omega⟩ _ ?_ ?_).trans (R.C_at G _ 1 _ d ?_)
  · dsimp only; omega
  · dsimp only
  · simp; omega

omit G H in
/-- The first three parts of the columns. -/
theorem parts_eq (u0 u1 : FVec Ideal S8x128 .f32) (w q : FVec Ideal S24x128 .f32) (x20 x21 : Vec Ideal S8x128 .f32) (y13 y14 : Vec Ideal S1x128 .i32)
    (n : Fin 128) :
    (∀ k : Fin 8, k0_pay13 w q u0 u1 x20 y13 x21 y14 (ix2 ⟨k.val, by omega⟩ n) = u0 (ix2 k n))
    ∧ (∀ k : Fin 8, k0_pay13 w q u0 u1 x20 y13 x21 y14 (ix2 ⟨8 + k.val, by omega⟩ n) = u1 (ix2 k n))
    ∧ (∀ k : Fin 24, k0_pay13 w q u0 u1 x20 y13 x21 y14 (ix2 ⟨16 + k.val, by omega⟩ n) = w (ix2 k n))
    ∧ (∀ k : Fin 24, k0_pay13 w q u0 u1 x20 y13 x21 y14 (ix2 ⟨40 + k.val, by omega⟩ n) = q (ix2 k n)) := by
  refine ⟨fun k => ?_, fun k => ?_, fun k => ?_, fun k => ?_⟩
  · pointwise [k0_pay13]
    rw [dif_pos (by omega)]
  · pointwise [k0_pay13]
    rw [dif_pos (by omega)]
  · pointwise [k0_pay13]
  · pointwise [k0_pay13]
    rw [dif_neg (by omega), dif_neg (by omega), dif_pos (by omega)]
    exact congrArg (fun p => q (ix2 p n)) (Fin.ext (by dsimp only; omega))

theorem vX_eq (s : Vec Ideal S40x128 .f32)
    (h0 : ∀ j : Fin 36, s (ix2 ⟨j.val, by omega⟩ 0) = ((∑ b, ∑ t, R.args.act b t j : ℝ) : EReal))
    (h1 : ∀ j : Fin 36, s (ix2 ⟨j.val, by omega⟩ 1) = ((∑ b, ∑ t, R.args.act b t j * R.args.act b t j : ℝ) : EReal))
    (k : Fin 80) (n : Fin 128) : vX X s (ix2 k n) = ((R.args.row (cOf i n) k : ℝ) : EReal) := by
  obtain ⟨e0, e1, e2, e3⟩ := parts_eq (k0_pay11 X.a18 X.a11) (k0_pay12 X.a19 X.a12) (vW X s)
    (k0_pay10 (k0_pay6 X.a15 X.a8) (k0_pay7 X.a16 X.a9) (k0_pay8 X.a10) (k0_pay9 X.a17)) X.a20 X.a21 X.a13 X.a14 n
  have at_row : ∀ r : Fin 80, k.val = r.val → vX X s (ix2 k n) = vX X s (ix2 r n) := fun r h =>
    congrArg (fun p => vX X s (ix2 p n)) (Fin.ext h)
  by_cases k1 : k.val < 16
  · rw [row_U _ _ _ k1]
    by_cases k2 : k.val < 8
    · exact (e0 ⟨k.val, k2⟩).trans (u0_eq G H _ n _ rfl)
    · refine (at_row ⟨8 + (k.val - 8), by omega⟩ (by dsimp only; omega)).trans ?_
      exact (e1 ⟨k.val - 8, by omega⟩).trans (u1_eq G H _ n _ (by dsimp only; omega))
  by_cases k3 : k.val - 16 < 24
  · rw [row_P _ _ _ k1 k3]
    refine (at_row ⟨16 + (k.val - 16), by omega⟩ (by dsimp only; omega)).trans ?_
    exact (e2 ⟨k.val - 16, k3⟩).trans (vW_eq G H s h0 h1 _ n)
  by_cases k4 : k.val - 16 - 24 < 24
  · rw [row_Q _ _ _ k1 k3 k4]
    refine (at_row ⟨40 + (k.val - 16 - 24), by omega⟩ (by dsimp only; omega)).trans ?_
    exact (e3 ⟨k.val - 16 - 24, k4⟩).trans (q_eq G H _ n)
  rw [row_C _ _ _ k1 k3 k4]
  refine (at_row ⟨64 + (k.val - 16 - 24 - 24), by omega⟩ (by dsimp only; omega)).trans ?_
  exact c_eq G H _ _ _ _ ⟨k.val - 16 - 24 - 24, by omega⟩ n

end Cert.KernelIdeal.Hand
-- ==== Proof.K.KVal5.lean ====
module

public import proofs.«01_k».proof.Proof.K.Holds
public import Idealize.ShloMosaic.Lib.Pointwise

@[expose] public section

set_option maxRecDepth 16384

noncomputable section

/-! The dense layers of the last grid point. -/

namespace Cert.KernelIdeal.Hand

open Cert.KernelIdeal Cert.KernelIdeal.Gen Idealize.ShloMosaic Cert.Din

theorem mean_eq (h : Fin 4096 → ℝ) : Ideal.div (∑ b, (h b : EReal)) (Ideal.ofBits .f32 0x45800000#32) = ((Args.mean h : ℝ) : EReal) := by
  rw [coe_sum, ofBits_batch, div_coe _ _ (by norm_num)]; rfl

theorem var_eq (h : Fin 4096 → ℝ) (μ : ℝ) (hμ : μ = Args.mean h) :
    Ideal.div (∑ b, ((h b : EReal) - (μ : EReal)) * ((h b : EReal) - (μ : EReal))) (Ideal.ofBits .f32 0x45800000#32) = ((Args.var h : ℝ) : EReal) := by
  subst hμ
  simp only [← EReal.coe_sub, ← EReal.coe_mul]
  rw [coe_sum, ofBits_batch, div_coe _ _ (by norm_num)]; rfl

variable {R : Raw} (G : R.Good) {i : Fin 32} {X : Xs Ideal} (H : Holds R i X)

include G H

theorem p14_eq (x : Vec Ideal S80x4096 .f32) (hx : ∀ k b, x (ix2 k b) = ((R.args.row b k : ℝ) : EReal)) (j : Fin 80) (b : Fin 4096) :
    k0_pay14 x X.a28 X.a29 X.a30 X.a31 (ix2 j b) = ((∑ k, R.args.d1 b k * R.args.W2 k j : ℝ) : EReal) := by
  have hW : ∀ k j, R.W1 k j = ((R.args.W1 k j : ℝ) : EReal) := fun k j => G.W1 k j
  have hb : ∀ j, R.b1 j = ((R.args.b1 j : ℝ) : EReal) := fun j => G.b1 j
  have ha : ∀ j, R.a1 j = ((R.args.a1 j : ℝ) : EReal) := fun j => G.a1 j
  have hW2 : ∀ k j, R.W2 k j = ((R.args.W2 k j : ℝ) : EReal) := fun k j => G.W2 k j
  have hh : ∀ (j : Fin 200) (b : Fin 4096), ∑ k, X.a28 (ix2 j k) * x (ix2 k b) + X.a29 (ix2 j 0) = ((R.args.h1 b j : ℝ) : EReal) := fun j b => by
    rw [H.b1, hb, Args.h1, EReal.coe_add, ← coe_sum]
    refine congrArg (· + _) (Finset.sum_congr rfl fun k _ => ?_)
    rw [H.W1, hW, hx, EReal.coe_mul, mul_comm]
  pointwise [k0_pay14]
  simp only [hh]
  simp only [mean_eq, fun j => var_eq (fun b => R.args.h1 b j) _ rfl]
  simp only [H.a1, ha, fun x μ α j => dice_gate x μ (Args.var fun b => R.args.h1 b j) α (Args.var_nonneg _)]
  rw [← coe_sum]
  refine Finset.sum_congr rfl fun k _ => ?_
  rw [H.W2, hW2, EReal.coe_mul, mul_comm]
  rfl

theorem vO_eq (x : Vec Ideal S80x4096 .f32) (hx : ∀ k b, x (ix2 k b) = ((R.args.row b k : ℝ) : EReal)) (o : Fin 2) (b : Fin 4096) :
    vO X x (ix2 o b) = R.args.out b o := by
  have hb : ∀ j, R.b2 j = ((R.args.b2 j : ℝ) : EReal) := fun j => G.b2 j
  have ha : ∀ j, R.a2 j = ((R.args.a2 j : ℝ) : EReal) := fun j => G.a2 j
  have hh : ∀ (j : Fin 80) (b : Fin 4096), k0_pay14 x X.a28 X.a29 X.a30 X.a31 (ix2 j b) + X.a32 (ix2 j 0) = ((R.args.h2 b j : ℝ) : EReal) := fun j b => by
    rw [p14_eq G H x hx, H.b2, hb, Args.h2, EReal.coe_add]
  unfold vO
  pointwise [k0_pay15]
  simp only [hh]
  simp only [mean_eq, fun j => var_eq (fun b => R.args.h2 b j) _ rfl]
  simp only [H.a2, ha, fun x μ α j => dice_gate x μ (Args.var fun b => R.args.h2 b j) α (Args.var_nonneg _)]
  rw [Args.out, H.b3]
  refine congrArg (· + _) (Finset.sum_congr rfl fun k _ => ?_)
  rw [H.W3, mul_comm]
  rfl

end Cert.KernelIdeal.Hand
-- ==== Proof.K.KernelRun.lean ====
module

public import proofs.«01_k».proof.Proof.K.LaunchKernelIdeal
public import proofs.«01_k».proof.Proof.K.KVal2
public import proofs.«01_k».proof.Proof.K.KVal4
public import proofs.«01_k».proof.Proof.K.KVal5
public import Idealize.ShloMosaic.Lib.StableHlo.ReadAt
public import Idealize.ShloMosaic.Lib.Pipeline.ValueKit.Point

@[expose] public section

set_option maxRecDepth 16384

noncomputable section

/-! The kernel's result, in terms of the arguments. -/

namespace Cert.KernelIdeal.Hand

open Cert.KernelIdeal Cert.KernelIdeal.Gen Idealize.ShloMosaic Idealize.ShloMosaic.TcCoe Cert.Din

variable (m : (ℓ : Loc nD τ sig) → Buf (Elt Idealize.ShloMosaic.Ideal) ℓ) (c : Dev nD) {R : Raw} (G : R.Good)
  (H : ∀ t : Fin cfg0.N, ∀ q : t.val % 32 < 32, Holds R ⟨t.val % 32, q⟩ (XX m c t))

theorem point_block (n : ℕ) : (pt n).val % 32 = n % 32 := by
  show n % 64 % 32 = n % 32
  omega

theorem sAt_succ (n : ℕ) (h : n < 32) : sAt m c (n + 1) = st1 (XX m c (pt n)) (sAt m c n) := by
  rw [sAt, if_pos h]

include H in
theorem holds_pt (n : ℕ) (q : n % 32 < 32) : Holds R ⟨n % 32, q⟩ (XX m c (pt n)) := by
  have e : (⟨n % 32, q⟩ : Fin 32) = ⟨(pt n).val % 32, Nat.mod_lt _ (Nat.zero_lt_succ 31)⟩ := Fin.ext (point_block n).symm
  rw [e]
  exact H (pt n) _

include G H

theorem Xfin_eq (k : Fin 80) (b : Fin 4096) : Xfin m c (ix2 k b) = ((R.args.row b k : ℝ) : EReal) := by
  have q : (32 + b.val / 128) % 32 < 32 := Nat.mod_lt _ (Nat.zero_lt_succ 31)
  have e : cOf ⟨(32 + b.val / 128) % 32, q⟩ ⟨b.val % 128, Nat.mod_lt _ (Nat.zero_lt_succ 127)⟩ = b := by
    apply Fin.ext
    show (32 + b.val / 128) % 32 * 128 + b.val % 128 = b.val
    omega
  have h := vX_eq G (holds_pt m c H (32 + b.val / 128) q) (sAt m c 32)
    (col0 G (fun n => XX m c (pt n)) (sAt m c) rfl (fun n hn => sAt_succ m c n hn) (fun n _ => holds_pt m c H n _))
    (col1 G (fun n => XX m c (pt n)) (sAt m c) rfl (fun n hn => sAt_succ m c n hn) (fun n _ => holds_pt m c H n _))
    k ⟨b.val % 128, Nat.mod_lt _ (Nat.zero_lt_succ 127)⟩
  rw [e] at h
  refine Eq.trans ?_ h
  unfold Xfin k0_pay4
  exact congrFun (Idealize.ShloMosaic.shapeCast_self _ _) _

theorem out_array : (dats m 0 c).arrAt 34 cfg0.N = fun ix => R.args.out (ix 1) (ix 0) := by
  refine (dats m 0 c).arrAt_eq_of_after_last 34 (pt 63) (by decide +kernel) _ fun j => ?_
  rw [after0_34]
  refine (congrArg (fun x => vO (XX m c (pt 63)) (Xfin m c) x) ?_).trans (vO_eq G (H (pt 63) (Nat.mod_lt _ (Nat.zero_lt_succ 31))) _ (Xfin_eq m c G H) (j 0) (j 1))
  funext a
  match a with
  | ⟨0, _⟩ => rfl
  | ⟨1, _⟩ => rfl

theorem result_eq : Pipeline.afterTail₀ cfgs (dats m) 0 (V0 m) [hostOps1] c main_v109 = fun j => R.args.out (j 0) (j 1) := by
  have h := out_array m c G H
  funext j
  obtain ⟨b, o, rfl⟩ : ∃ (b : Fin 4096) (o : Fin 2), j = ix2 b o := ⟨j 0, j 1, by
    funext a
    match a with
    | ⟨0, _⟩ => rfl
    | ⟨1, _⟩ => rfl⟩
  unfold Pipeline.afterTail₀
  simp only [List.flatten_cons, List.flatten_nil, List.append_nil]
  after_reads_at
  refine (congrFun (Pipeline.withArrays_arr spec0 launch0.win.arr_inj c (V0 m c) (fun w => (dats m 0 c).arrAt w cfg0.N) 34) (ix2 o b)).trans ?_
  rw [h]
  rfl

end Cert.KernelIdeal.Hand
-- ==== Proof.K.RefTakes.lean ====
module

public import proofs.«01_k».proof.Proof.Gen.ReferenceIdeal.Run
public import proofs.«01_k».proof.Proof.K.Raw
public import proofs.«01_k».proof.Proof.K.Gather
public import Idealize.ShloMosaic.Lib.Pointwise
public import Idealize.ShloMosaic.Lib.Tactic.CleanTypes

@[expose] public section

set_option maxRecDepth 16384

noncomputable section

/-! The reference's looked-up rows. -/

namespace Cert.ReferenceIdeal.Hand

open Cert.ReferenceIdeal Cert.ReferenceIdeal.Gen Cert.ReferenceIdeal.Value Idealize.ShloMosaic Idealize.ShloMosaic.TcCoe Cert.Din

variable (V0 : Valuation τ sig (Elt Ideal))

/-- The arguments the reference reads. -/
def raw : Raw where
  up b k := V0 (Proc.devRef .tc main_arg0) (ix2 b k)
  beh b t k := V0 (Proc.devRef .tc main_arg1) (ix3 b t k)
  ad b k := V0 (Proc.devRef .tc main_arg2) (ix3 b 0 k)
  cx b k := V0 (Proc.devRef .tc main_arg3) (ix2 b k)
  upT r k := V0 (Proc.devRef .tc main_arg4) (ix2 r k)
  adT r k := V0 (Proc.devRef .tc main_arg5) (ix2 r k)
  cxT r k := V0 (Proc.devRef .tc main_arg6) (ix2 r k)
  W i j := V0 (Proc.devRef .tc main_arg7) (ix2 i j)
  bu j := V0 (Proc.devRef .tc main_arg8) (ix1 j)
  au j := V0 (Proc.devRef .tc main_arg9) (ix1 j)
  Wu j := V0 (Proc.devRef .tc main_arg10) (ix2 j 0)
  cu := V0 (Proc.devRef .tc main_arg11) (ix1 0)
  W1 i j := V0 (Proc.devRef .tc main_arg12) (ix2 i j)
  b1 j := V0 (Proc.devRef .tc main_arg13) (ix1 j)
  a1 j := V0 (Proc.devRef .tc main_arg14) (ix1 j)
  W2 i j := V0 (Proc.devRef .tc main_arg15) (ix2 i j)
  b2 j := V0 (Proc.devRef .tc main_arg16) (ix1 j)
  a2 j := V0 (Proc.devRef .tc main_arg17) (ix1 j)
  W3 i j := V0 (Proc.devRef .tc main_arg18) (ix2 i j)
  b3 j := V0 (Proc.devRef .tc main_arg19) (ix1 j)

theorem lit1_eq (k : Fin 3) : lit1 (S3.rowMajor (ix1 k)) = BitVec.ofNat 32 (adOff k) := by
  revert k; decide

theorem lit0_eq (k : Fin 2) : lit0 (S2.rowMajor (ix1 k)) = BitVec.ofNat 32 (2 * k.val) := by
  revert k; decide

theorem lit2_eq (k : Fin 2) : lit2 (S2.rowMajor (ix1 k)) = BitVec.ofNat 32 (10 * k.val) := by
  revert k; decide

theorem adOff_le (k : Fin 3) : adOff k ≤ 101000 := by revert k; decide

variable (hX : (raw V0).Good)

include hX

theorem call1_eq (b : Fin 4096) (t : Fin 200) (k : Fin 3) (e : Fin 1) :
    res_main_call1_v5 V0 (ix4 b t k e) = BitVec.ofNat 32 (adOff k + ((raw V0).beh b t k).toNat) := by
  have h := hX.beh b t k
  have ho := adOff_le k
  unfold res_main_call1_v5 res_main_v7 res_main_c_0
  clean_types
  pointwise
  rw [lit1_eq]
  exact row_number _ (adOff k) 100 101100 h (by omega) (by omega)

theorem call2_eq (b : Fin 4096) (k : Fin 3) (e : Fin 1) :
    res_main_call2_v5 V0 (ix4 b 0 k e) = BitVec.ofNat 32 (adOff k + ((raw V0).ad b k).toNat) := by
  have h := hX.ad b k
  have ho := adOff_le k
  unfold res_main_call2_v5 res_main_v12 res_main_c_0
  clean_types
  pointwise
  rw [lit1_eq]
  exact row_number _ (adOff k) 100 101100 h (by omega) (by omega)

theorem call0_eq (b : Fin 4096) (k : Fin 2) (e : Fin 1) :
    res_main_call0_v5 V0 (ix3 b k e) = BitVec.ofNat 32 (2 * k.val + ((raw V0).up b k).toNat) := by
  have h := hX.up b k
  unfold res_main_call0_v5 res_main_v2
  clean_types
  pointwise
  rw [lit0_eq]
  exact row_number _ (2 * k.val) 2 12 h (by omega) (by omega)

theorem call4_eq (b : Fin 4096) (k : Fin 2) (e : Fin 1) :
    res_main_call4_v5 V0 (ix3 b k e) = BitVec.ofNat 32 (10 * k.val + ((raw V0).cx b k).toNat) := by
  have h := hX.cx b k
  unfold res_main_call4_v5 res_main_v59
  clean_types
  pointwise
  rw [lit2_eq]
  exact row_number _ (10 * k.val) 10 20 h (by omega) (by omega)

theorem v9_eq (b : Fin 4096) (t : Fin 200) (d : Fin 24) : res_main_v9 V0 (ix3 b t d) = (((raw V0).args.E b t d : ℝ) : EReal) := by
  have h := hX.beh b t ⟨d.val / 8, by omega⟩
  have ho := adOff_le ⟨d.val / 8, by omega⟩
  unfold res_main_v9
  clean_types
  pointwise
  rw [fold_one _ (by rw [call1_eq V0 hX]; exact row_inside _ 101099 (by omega) (by omega))]
  refine (gather_rows4 _ _ _ b t ⟨d.val / 8, by omega⟩ ⟨d.val % 8, by omega⟩
    ⟨(adOff ⟨d.val / 8, by omega⟩ + ((raw V0).beh b t ⟨d.val / 8, by omega⟩).toNat) % 101100, Nat.mod_lt _ (by omega)⟩ (by omega) ?_).trans (hX.adT _ _)
  rw [call1_eq V0 hX]
  exact congrArg (BitVec.ofNat 32) (Nat.mod_eq_of_lt (by omega)).symm

theorem v14_eq (b : Fin 4096) (d : Fin 24) : res_main_v14 V0 (ix2 b d) = (((raw V0).args.Q b d : ℝ) : EReal) := by
  have h := hX.ad b ⟨d.val / 8, by omega⟩
  have ho := adOff_le ⟨d.val / 8, by omega⟩
  unfold res_main_v14
  clean_types
  pointwise
  rw [fold_one _ (by rw [call2_eq V0 hX]; exact row_inside _ 101099 (by omega) (by omega))]
  refine (gather_rows4 _ _ _ b 0 ⟨d.val / 8, by omega⟩ ⟨d.val % 8, by omega⟩
    ⟨(adOff ⟨d.val / 8, by omega⟩ + ((raw V0).ad b ⟨d.val / 8, by omega⟩).toNat) % 101100, Nat.mod_lt _ (by omega)⟩ (by omega) ?_).trans (hX.adT _ _)
  rw [call2_eq V0 hX]
  exact congrArg (BitVec.ofNat 32) (Nat.mod_eq_of_lt (by omega)).symm

omit hX in
/-- The user's rows. -/
def userR : FVec Ideal S4096x16 .f32 :=
  shapeCast _ (select (broadcastInDim S4096x2x8 ![0, 1] bcast_S4096x2_S4096x2x8_0_1 (Host.reduce IntOp.andi (andi (cmpi .sge (res_main_call0_v5 V0) (broadcastInDim S4096x2x1 ![] bcast_S_S4096x2x1 (constantI S_ 32 0#32))) (cmpi .sle (res_main_call0_v5 V0) (broadcastInDim S4096x2x1 ![0, 1, 2] bcast_S1x1x1_S4096x2x1_0_1_2 (broadcastInDim S1x1x1 ![2] bcast_S1_S1x1x1_2 (constantI S1 32 11#32))))) (constantI S_ 1 1#1) reducesTo_S4096x2x1_S4096x2_d2 h_S_)) (Host.gather gather_S12x8_S4096x2x1_S4096x2x8_2_0_n_n_0_2_18 (V0 (Proc.devRef .tc main_arg4)) (res_main_call0_v5 V0)) (broadcastInDim S4096x2x8 ![] bcast_S_S4096x2x8 (constant S_ .f32 0x7FC00000#32))) shapeCasts_S4096x2x8_S4096x16

/-- The context's rows. -/
def ctxR : FVec Ideal S4096x16 .f32 :=
  shapeCast _ (select (broadcastInDim S4096x2x8 ![0, 1] bcast_S4096x2_S4096x2x8_0_1 (Host.reduce IntOp.andi (andi (cmpi .sge (res_main_call4_v5 V0) (broadcastInDim S4096x2x1 ![] bcast_S_S4096x2x1 (constantI S_ 32 0#32))) (cmpi .sle (res_main_call4_v5 V0) (broadcastInDim S4096x2x1 ![0, 1, 2] bcast_S1x1x1_S4096x2x1_0_1_2 (broadcastInDim S1x1x1 ![2] bcast_S1_S1x1x1_2 (constantI S1 32 19#32))))) (constantI S_ 1 1#1) reducesTo_S4096x2x1_S4096x2_d2 h_S_)) (Host.gather gather_S20x8_S4096x2x1_S4096x2x8_2_0_n_n_0_2_18 (V0 (Proc.devRef .tc main_arg6)) (res_main_call4_v5 V0)) (broadcastInDim S4096x2x8 ![] bcast_S_S4096x2x8 (constant S_ .f32 0x7FC00000#32))) shapeCasts_S4096x2x8_S4096x16

theorem userR_eq (b : Fin 4096) (d : Fin 16) : userR V0 (ix2 b d) = (((raw V0).args.U b d : ℝ) : EReal) := by
  have h := hX.up b ⟨d.val / 8, by omega⟩
  unfold userR
  clean_types
  pointwise
  rw [fold_one _ (by rw [call0_eq V0 hX]; exact row_inside _ 11 (by dsimp only; omega) (by omega))]
  refine (gather_rows3 _ _ _ b ⟨d.val / 8, by omega⟩ ⟨d.val % 8, by omega⟩
    ⟨(2 * (d.val / 8) + ((raw V0).up b ⟨d.val / 8, by omega⟩).toNat) % 12, Nat.mod_lt _ (by omega)⟩ (by omega) ?_).trans (hX.upT _ _)
  rw [call0_eq V0 hX]
  exact congrArg (BitVec.ofNat 32) (Nat.mod_eq_of_lt (by dsimp only; omega)).symm

theorem ctxR_eq (b : Fin 4096) (d : Fin 16) : ctxR V0 (ix2 b d) = (((raw V0).args.C b d : ℝ) : EReal) := by
  have h := hX.cx b ⟨d.val / 8, by omega⟩
  unfold ctxR
  clean_types
  pointwise
  rw [fold_one _ (by rw [call4_eq V0 hX]; exact row_inside _ 19 (by dsimp only; omega) (by omega))]
  refine (gather_rows3 _ _ _ b ⟨d.val / 8, by omega⟩ ⟨d.val % 8, by omega⟩
    ⟨(10 * (d.val / 8) + ((raw V0).cx b ⟨d.val / 8, by omega⟩).toNat) % 20, Nat.mod_lt _ (by omega)⟩ (by omega) ?_).trans (hX.cxT _ _)
  rw [call4_eq V0 hX]
  exact congrArg (BitVec.ofNat 32) (Nat.mod_eq_of_lt (by dsimp only; omega)).symm

end Cert.ReferenceIdeal.Hand
-- ==== Proof.K.RefAct.lean ====
module

public import proofs.«01_k».proof.Proof.Gen.ReferenceIdeal.Run
public import proofs.«01_k».proof.Proof.K.RefTakes
public import Idealize.ShloMosaic.Lib.Pointwise
public import Idealize.ShloMosaic.Lib.Tactic.CleanTypes

@[expose] public section

set_option maxRecDepth 16384

noncomputable section

/-! The first layer of the reference's activation unit. -/

namespace Cert.ReferenceIdeal.Hand

open Cert.ReferenceIdeal Cert.ReferenceIdeal.Gen Cert.ReferenceIdeal.Value Idealize.ShloMosaic Idealize.ShloMosaic.TcCoe Cert.Din

variable (V0 : Valuation τ sig (Elt Ideal)) (hX : (raw V0).Good)

include hX

theorem v23_eq (b : Fin 4096) (t : Fin 200) (j : Fin 36) : res_main_v23 V0 (ix3 b t j) = (((raw V0).args.act b t j : ℝ) : EReal) := by
  unfold res_main_v23 res_main_v16
  clean_types
  pointwise
  simp only [v9_eq V0 hX, v14_eq V0 hX]
  unfold Args.act
  rw [EReal.coe_add, ← coe_sum]
  refine congrArg₂ (· + ·) (Finset.sum_congr rfl fun k _ => ?_) (hX.bu j)
  rw [EReal.coe_mul]
  refine congrArg₂ (· * ·) ?_ (hX.W k j)
  unfold Args.feat
  split_ifs <;> first | rfl | rw [EReal.coe_sub] | rw [EReal.coe_mul]

end Cert.ReferenceIdeal.Hand
-- ==== Proof.K.RefGate.lean ====
module

public import proofs.«01_k».proof.Proof.K.RefAct
public import Idealize.ShloMosaic.Lib.Pointwise
public import Idealize.ShloMosaic.Lib.Tactic.CleanTypes

@[expose] public section

set_option maxRecDepth 16384

noncomputable section

/-! The gate of the reference's activation unit. -/

namespace Cert.ReferenceIdeal.Hand

open Cert.ReferenceIdeal Cert.ReferenceIdeal.Gen Cert.ReferenceIdeal.Value Idealize.ShloMosaic Idealize.ShloMosaic.TcCoe Cert.Din

/-- The entries that drop to a given last coordinate are the canonical ones. -/
theorem drop_first_two {n0 n1 n2 : ℕ} (h : (⟨3, ![n0, n1, n2]⟩ : Shape).ReducesTo [0, 1] ⟨1, ![n2]⟩) (j : Fin n2)
    (i : (⟨3, ![n0, n1, n2]⟩ : Shape).Idx) : h.drop i = ix1 j ↔ ∃ k : Fin n0 × Fin n1, ix3 k.1 k.2 j = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- The host's sum over the first two axes. -/
theorem sum_first_two {n0 n1 n2 : ℕ} (h : (⟨3, ![n0, n1, n2]⟩ : Shape).ReducesTo [0, 1] ⟨1, ![n2]⟩) (j : Fin n2)
    (v : (⟨3, ![n0, n1, n2]⟩ : Shape).Idx → EReal) (init : EReal) :
    Ideal.hostReduceAdd h v init (ix1 j) = init + ∑ b : Fin n0, ∑ t : Fin n1, v (ix3 b t j) := by
  refine congrArg (init + ·) ?_
  refine (Finset.sum_filter_eq_sum_of_fiber _ (fun k : Fin n0 × Fin n1 => ix3 k.1 k.2 j)
    (fun _ _ e => Prod.ext (congrFun e 0) (congrFun e 1)) (drop_first_two h j) v).trans ?_
  simp only [Fintype.sum_prod_type]

/-- The mean over a batch and its times. -/
theorem mean3_eq (A : Args) (j : Fin 36) :
    Ideal.div (∑ b, ∑ t, ((A.act b t j : ℝ) : EReal)) (Ideal.ofBits .f32 0x49480000#32) = ((A.actMean j : ℝ) : EReal) := by
  simp only [coe_sum]
  rw [ofBits_rows, div_coe _ _ (by norm_num)]; rfl

/-- The variance over a batch and its times. -/
theorem var3_eq (A : Args) (j : Fin 36) :
    Ideal.div (∑ b, ∑ t, (((A.act b t j - A.actMean j : ℝ) : EReal) * ((A.act b t j - A.actMean j : ℝ) : EReal)))
      (Ideal.ofBits .f32 0x49480000#32) = ((A.actVar j : ℝ) : EReal) := by
  simp only [← EReal.coe_mul, coe_sum]
  rw [ofBits_rows, div_coe _ _ (by norm_num)]; rfl

/-- Nothing is taken off a row count. -/
theorem sub_none (x : EReal) : x - FloatOps.sitofp (F := Ideal) FTy.f32 (0#32) = x := by
  show x - (((0 : ℤ) : ℝ) : EReal) = x
  rw [Int.cast_zero, EReal.coe_zero, sub_zero]

/-- An entry less its unit's mean over the batch and times. -/
theorem center_at (v : FVec Ideal S4096x200x36 .f32) (b : Fin 4096) (t : Fin 200) (j : Fin 36) :
    subf v (broadcastInDim S4096x200x36 ![0, 1, 2] bcast_S1x1x36_S4096x200x36_0_1_2 (Host.divf (broadcastInDim S1x1x36 ![2] bcast_S36_S1x1x36_2 (Host.reduceAdd v (constant S_ .f32 0x00000000#32) reducesTo_S4096x200x36_S36_d0_1 h_S_)) (broadcastInDim S1x1x36 ![] bcast_S_S1x1x36 (constant S_ .f32 0x49480000#32)))) (ix3 b t j)
      = v (ix3 b t j) - Ideal.div (∑ b : Fin 4096, ∑ t : Fin 200, v (ix3 b t j)) (Ideal.ofBits .f32 0x49480000#32) := by
  pointwise
  rw [sum_first_two, zero_add]

/-- The gate at an entry, from the entries and what is left of them when their means are taken off. -/
theorem gate_at (v d : FVec Ideal S4096x200x36 .f32) (n : FVec Ideal S_ .f32) (hn : n = subf (constant S_ .f32 0x49480000#32) (sitofp .f32 (constantI S_ 32 0#32)))
    (b : Fin 4096) (t : Fin 200) (j : Fin 36) :
    Host.divf (broadcastInDim S4096x200x36 ![] bcast_S_S4096x200x36 (constant S_ .f32 0x3F800000#32)) (addf (broadcastInDim S4096x200x36 ![] bcast_S_S4096x200x36 (constant S_ .f32 0x3F800000#32)) (Host.exp (Host.negf (Host.divf (subf v (broadcastInDim S4096x200x36 ![0, 1, 2] bcast_S1x1x36_S4096x200x36_0_1_2 (Host.divf (broadcastInDim S1x1x36 ![2] bcast_S36_S1x1x36_2 (Host.reduceAdd v (constant S_ .f32 0x00000000#32) reducesTo_S4096x200x36_S36_d0_1 h_S_)) (broadcastInDim S1x1x36 ![] bcast_S_S1x1x36 (constant S_ .f32 0x49480000#32))))) (broadcastInDim S4096x200x36 ![0, 1, 2] bcast_S1x1x36_S4096x200x36_0_1_2 (Host.sqrt (addf (select (broadcastInDim S1x1x36 ![] bcast_S_S1x1x36 (cmpf .ogt n (constant S_ .f32 0x00000000#32))) (Host.divf (broadcastInDim S1x1x36 ![2] bcast_S36_S1x1x36_2 (Host.reduceAdd (mulf d d) (constant S_ .f32 0x00000000#32) reducesTo_S4096x200x36_S36_d0_1 h_S_)) (broadcastInDim S1x1x36 ![] bcast_S_S1x1x36 n)) (broadcastInDim S1x1x36 ![] bcast_S_S1x1x36 (id (constant S_ .f32 0x7FC00000#32)))) (broadcastInDim S1x1x36 ![] bcast_S_S1x1x36 (constant S_ .f32 0x322BCC77#32))))))))) (ix3 b t j)
      = Ideal.div 1 (1 + Ideal.exp (-(Ideal.div
        (v (ix3 b t j) - Ideal.div (∑ b : Fin 4096, ∑ t : Fin 200, v (ix3 b t j)) (Ideal.ofBits .f32 0x49480000#32))
        (Ideal.sqrt (Ideal.div (∑ b : Fin 4096, ∑ t : Fin 200, d (ix3 b t j) * d (ix3 b t j)) (Ideal.ofBits .f32 0x49480000#32)
          + Ideal.ofBits .f32 0x322BCC77#32))))) := by
  subst hn
  pointwise
  simp only [sub_none]
  rw [if_pos (by rw [ofBits_rows]; exact EReal.coe_pos.mpr (by norm_num)), sum_first_two, sum_first_two, zero_add, zero_add]
  pointwise

variable (V0 : Valuation τ sig (Elt Ideal)) (hX : (raw V0).Good)

include hX

theorem call3_v5_eq (b : Fin 4096) (t : Fin 200) (j : Fin 36) :
    res_main_call3_v5 V0 (ix3 b t j) = (((raw V0).args.act b t j - (raw V0).args.actMean j : ℝ) : EReal) := by
  refine (center_at (res_main_v23 V0) b t j).trans ?_
  simp only [v23_eq V0 hX]
  rw [mean3_eq, ← EReal.coe_sub]

theorem v41_eq (b : Fin 4096) (t : Fin 200) (j : Fin 36) :
    res_main_v41 V0 (ix3 b t j) = Ideal.div 1 (1 + Ideal.exp (-(Ideal.div
      ((((raw V0).args.act b t j : ℝ) : EReal) - (((raw V0).args.actMean j : ℝ) : EReal))
      (Ideal.sqrt ((((raw V0).args.actVar j : ℝ) : EReal) + Ideal.ofBits .f32 0x322BCC77#32))))) := by
  refine (gate_at (res_main_v23 V0) (res_main_call3_v5 V0) (res_main_call3_v8 V0) rfl b t j).trans ?_
  simp only [v23_eq V0 hX, call3_v5_eq V0 hX]
  rw [mean3_eq, var3_eq]

end Cert.ReferenceIdeal.Hand
-- ==== Proof.K.RefDense.lean ====
module

public import proofs.«01_k».proof.Proof.K.RefGate
public import Idealize.ShloMosaic.Lib.Pointwise

@[expose] public section

set_option maxRecDepth 16384

noncomputable section

/-! The gates of the reference's dense layers. -/

namespace Cert.ReferenceIdeal.Hand

open Cert.ReferenceIdeal Cert.ReferenceIdeal.Gen Cert.ReferenceIdeal.Value Idealize.ShloMosaic Idealize.ShloMosaic.TcCoe Cert.Din

theorem mean_eq (h : Fin 4096 → ℝ) : Ideal.div (∑ b, (h b : EReal)) (Ideal.ofBits .f32 0x45800000#32) = ((Args.mean h : ℝ) : EReal) := by
  rw [coe_sum, ofBits_batch, div_coe _ _ (by norm_num)]; rfl

theorem var_eq (h : Fin 4096 → ℝ) (μ : ℝ) (hμ : μ = Args.mean h) :
    Ideal.div (∑ b, ((h b - μ : ℝ) : EReal) * ((h b - μ : ℝ) : EReal)) (Ideal.ofBits .f32 0x45800000#32) = ((Args.var h : ℝ) : EReal) := by
  subst hμ
  simp only [← EReal.coe_mul]
  rw [coe_sum, ofBits_batch, div_coe _ _ (by norm_num)]; rfl

/-- The score at a batch row and time. -/
theorem score_at (p v : FVec Ideal S4096x200x36 .f32) (a : FVec Ideal S36 .f32) (w : FVec Ideal S36x1 .f32) (c : FVec Ideal S1 .f32) (b : Fin 4096) (t : Fin 200) :
    (addf (Host.dotGeneral dot_S4096x200x36_S36x1_S4096x200x1_2_0_01_1_n_n none (addf (mulf p v) (mulf (mulf (subf (broadcastInDim S4096x200x36 ![] bcast_S_S4096x200x36 (constant S_ .f32 0x3F800000#32)) p) (broadcastInDim S4096x200x36 ![0, 1, 2] bcast_S1x1x36_S4096x200x36_0_1_2 (broadcastInDim S1x1x36 ![2] bcast_S36_S1x1x36_2 a))) v)) w) (broadcastInDim S4096x200x1 ![0, 1, 2] bcast_S1x1x1_S4096x200x1_0_1_2 (broadcastInDim S1x1x1 ![2] bcast_S1_S1x1x1_2 c))) (ix3 b t 0)
      = ∑ j : Fin 36, (p (ix3 b t j) * v (ix3 b t j) + (1 - p (ix3 b t j)) * a (ix1 j) * v (ix3 b t j)) * w (ix2 j 0) + c (ix1 0) := by
  pointwise

/-- The sum over time of the entries weighted by the scores. -/
theorem pool_at (e : FVec Ideal S4096x200x24 .f32) (s : FVec Ideal S4096x200x1 .f32) (b : Fin 4096) (d : Fin 24) :
    (Host.reduceAdd (mulf e (broadcastInDim S4096x200x24 ![0, 1, 2] bcast_S4096x200x1_S4096x200x24_0_1_2 s)) (constant S_ .f32 0x00000000#32) reducesTo_S4096x200x24_S4096x24_d1 h_S_) (ix2 b d) = ∑ t : Fin 200, e (ix3 b t d) * s (ix3 b t 0) := by
  pointwise

/-- The rows side by side. -/
theorem row_at (u c : FVec Ideal S4096x16 .f32) (p q : FVec Ideal S4096x24 .f32) (b : Fin 4096) (k : Fin 80) :
    concatenate S4096x80 1 [⟨S4096x16, u⟩, ⟨S4096x24, p⟩, ⟨S4096x24, q⟩, ⟨S4096x16, c⟩] concatenates_S4096x16_S4096x24_S4096x24_S4096x16_S4096x80_d1 (ix2 b k)
      = if h : k.val < 16 then u (ix2 b ⟨k.val, h⟩)
        else if h1 : k.val - 16 < 24 then p (ix2 b ⟨k.val - 16, h1⟩)
        else if h2 : k.val - 16 - 24 < 24 then q (ix2 b ⟨k.val - 16 - 24, h2⟩)
        else c (ix2 b ⟨k.val - 16 - 24 - 24, by omega⟩) := by
  pointwise

/-- The first dense layer. -/
theorem dense1_at (x : FVec Ideal S4096x80 .f32) (w : FVec Ideal S80x200 .f32) (c : FVec Ideal S200 .f32) (b : Fin 4096) (j : Fin 200) :
    addf (Host.dotGeneral dot_S4096x80_S80x200_S4096x200_1_0_0_1_n_n none x w) (broadcastInDim S4096x200 ![0, 1] bcast_S1x200_S4096x200_0_1 (broadcastInDim S1x200 ![1] bcast_S200_S1x200_1 c)) (ix2 b j)
      = ∑ k, x (ix2 b k) * w (ix2 k j) + c (ix1 j) := by
  pointwise

/-- The gate mixes an entry with its slope. -/
theorem mix1_at (p v : FVec Ideal S4096x200 .f32) (a : FVec Ideal S200 .f32) (b : Fin 4096) (j : Fin 200) :
    addf (mulf p v) (mulf (mulf (subf (broadcastInDim S4096x200 ![] bcast_S_S4096x200 (constant S_ .f32 0x3F800000#32)) p) (broadcastInDim S4096x200 ![0, 1] bcast_S1x200_S4096x200_0_1 (broadcastInDim S1x200 ![1] bcast_S200_S1x200_1 a))) v) (ix2 b j)
      = p (ix2 b j) * v (ix2 b j) + (1 - p (ix2 b j)) * a (ix1 j) * v (ix2 b j) := by
  pointwise

/-- The second dense layer. -/
theorem dense2_at (x : FVec Ideal S4096x200 .f32) (w : FVec Ideal S200x80 .f32) (c : FVec Ideal S80 .f32) (b : Fin 4096) (j : Fin 80) :
    addf (Host.dotGeneral dot_S4096x200_S200x80_S4096x80_1_0_0_1_n_n none x w) (broadcastInDim S4096x80 ![0, 1] bcast_S1x80_S4096x80_0_1 (broadcastInDim S1x80 ![1] bcast_S80_S1x80_1 c)) (ix2 b j)
      = ∑ k, x (ix2 b k) * w (ix2 k j) + c (ix1 j) := by
  pointwise

theorem mix2_at (p v : FVec Ideal S4096x80 .f32) (a : FVec Ideal S80 .f32) (b : Fin 4096) (j : Fin 80) :
    addf (mulf p v) (mulf (mulf (subf (broadcastInDim S4096x80 ![] bcast_S_S4096x80 (constant S_ .f32 0x3F800000#32)) p) (broadcastInDim S4096x80 ![0, 1] bcast_S1x80_S4096x80_0_1 (broadcastInDim S1x80 ![1] bcast_S80_S1x80_1 a))) v) (ix2 b j)
      = p (ix2 b j) * v (ix2 b j) + (1 - p (ix2 b j)) * a (ix1 j) * v (ix2 b j) := by
  pointwise

/-- The last dense layer. -/
theorem dense3_at (x : FVec Ideal S4096x80 .f32) (w : FVec Ideal S80x2 .f32) (c : FVec Ideal S2 .f32) (b : Fin 4096) (j : Fin 2) :
    addf (Host.dotGeneral dot_S4096x80_S80x2_S4096x2_1_0_0_1_n_n none x w) (broadcastInDim S4096x2 ![0, 1] bcast_S1x2_S4096x2_0_1 (broadcastInDim S1x2 ![1] bcast_S2_S1x2_1 c)) (ix2 b j)
      = ∑ k, x (ix2 b k) * w (ix2 k j) + c (ix1 j) := by
  pointwise

section layer

variable {n : ℕ} (v : FVec Ideal ⟨2, ![4096, n + 2]⟩ .f32)
  (f1 : (⟨2, ![1, n + 2]⟩ : Shape).BroadcastsInDim ⟨2, ![4096, n + 2]⟩ ![0, 1])
  (f2 : (⟨1, ![n + 2]⟩ : Shape).BroadcastsInDim ⟨2, ![1, n + 2]⟩ ![1])
  (f3 : S_.BroadcastsInDim ⟨2, ![1, n + 2]⟩ ![])
  (f4 : S_.BroadcastsInDim ⟨2, ![4096, n + 2]⟩ ![])
  (fr : (⟨2, ![4096, n + 2]⟩ : Shape).ReducesTo [0] ⟨1, ![n + 2]⟩)
  (b : Fin 4096) (j : Fin (n + 2))

/-- An entry less its channel's mean over the batch. -/
theorem center2_at :
    subf v (broadcastInDim _ ![0, 1] f1 (Host.divf (broadcastInDim _ ![1] f2 (Host.reduceAdd v (constant S_ .f32 0x00000000#32) fr h_S_)) (broadcastInDim _ ![] f3 (constant S_ .f32 0x45800000#32)))) (ix2 b j)
      = v (ix2 b j) - Ideal.div (∑ b : Fin 4096, v (ix2 b j)) (Ideal.ofBits .f32 0x45800000#32) := by
  pointwise
  rfl

/-- The gate at an entry of a layer. -/
theorem gate2_at (d : FVec Ideal ⟨2, ![4096, n + 2]⟩ .f32) (c : FVec Ideal S_ .f32) (hc : c = subf (constant S_ .f32 0x45800000#32) (sitofp .f32 (constantI S_ 32 0#32))) :
    Host.divf (broadcastInDim _ ![] f4 (constant S_ .f32 0x3F800000#32)) (addf (broadcastInDim _ ![] f4 (constant S_ .f32 0x3F800000#32)) (Host.exp (Host.negf (Host.divf (subf v (broadcastInDim _ ![0, 1] f1 (Host.divf (broadcastInDim _ ![1] f2 (Host.reduceAdd v (constant S_ .f32 0x00000000#32) fr h_S_)) (broadcastInDim _ ![] f3 (constant S_ .f32 0x45800000#32))))) (broadcastInDim _ ![0, 1] f1 (Host.sqrt (addf (select (broadcastInDim _ ![] f3 (cmpf .ogt c (constant S_ .f32 0x00000000#32))) (Host.divf (broadcastInDim _ ![1] f2 (Host.reduceAdd (mulf d d) (constant S_ .f32 0x00000000#32) fr h_S_)) (broadcastInDim _ ![] f3 c)) (broadcastInDim _ ![] f3 (id (constant S_ .f32 0x7FC00000#32)))) (broadcastInDim _ ![] f3 (constant S_ .f32 0x322BCC77#32))))))))) (ix2 b j)
      = Ideal.div 1 (1 + Ideal.exp (-(Ideal.div
        (v (ix2 b j) - Ideal.div (∑ b : Fin 4096, v (ix2 b j)) (Ideal.ofBits .f32 0x45800000#32))
        (Ideal.sqrt (Ideal.div (∑ b : Fin 4096, d (ix2 b j) * d (ix2 b j)) (Ideal.ofBits .f32 0x45800000#32)
          + Ideal.ofBits .f32 0x322BCC77#32))))) := by
  subst hc
  pointwise
  simp only [sub_none]
  rw [if_pos (by rw [ofBits_batch]; exact EReal.coe_pos.mpr (by norm_num))]
  rfl

end layer

end Cert.ReferenceIdeal.Hand
-- ==== Proof.K.RefRest.lean ====
module

public import proofs.«01_k».proof.Proof.K.RefDense

@[expose] public section

set_option maxRecDepth 65536

noncomputable section

/-! The reference, read at every index: what the network gives. -/

namespace Cert.ReferenceIdeal.Hand

open Cert.ReferenceIdeal Cert.ReferenceIdeal.Gen Cert.ReferenceIdeal.Value Idealize.ShloMosaic Idealize.ShloMosaic.TcCoe Cert.Din

/-- A dense layer of numbers. -/
theorem dense_coe {n : ℕ} {x w : Fin n → EReal} {c : EReal} {X W : Fin n → ℝ} {C : ℝ} (hx : ∀ k, x k = ((X k : ℝ) : EReal))
    (hw : ∀ k, w k = ((W k : ℝ) : EReal)) (hc : c = ((C : ℝ) : EReal)) :
    ∑ k, x k * w k + c = ((∑ k, X k * W k + C : ℝ) : EReal) := by
  simp only [hx, hw, ← EReal.coe_mul]
  rw [hc, coe_sum, ← EReal.coe_add]

/-- The gate mixing an entry with its slope, of numbers. -/
theorem mix_coe {x μ v α : ℝ} (hv : 0 ≤ v) {p X A : EReal}
    (hp : p = Ideal.div 1 (1 + Ideal.exp (-(Ideal.div ((x : EReal) - (μ : EReal)) (Ideal.sqrt ((v : EReal) + Ideal.ofBits .f32 0x322BCC77#32))))))
    (hX : X = (x : EReal)) (hA : A = (α : EReal)) : p * X + (1 - p) * A * X = ((dice x μ v α : ℝ) : EReal) := by
  subst hX hA
  exact dice_mix x μ v α hv p hp

variable (V0 : Valuation τ sig (Elt Ideal))

/-- The scores of the behaviours. -/
def scoreR : FVec Ideal S4096x200x1 .f32 := (addf (Host.dotGeneral (φ₂ := .f32) dot_S4096x200x36_S36x1_S4096x200x1_2_0_01_1_n_n none (addf (mulf (res_main_v41 V0) (res_main_v23 V0)) (mulf (mulf (subf (broadcastInDim S4096x200x36 ![] bcast_S_S4096x200x36 (constant S_ .f32 0x3F800000#32)) (res_main_v41 V0)) (broadcastInDim S4096x200x36 ![0, 1, 2] bcast_S1x1x36_S4096x200x36_0_1_2 (broadcastInDim S1x1x36 ![2] bcast_S36_S1x1x36_2 (V0 (Proc.devRef .tc main_arg9))))) (res_main_v23 V0))) (V0 (Proc.devRef .tc main_arg10) : FVec Ideal S36x1 .f32)) (broadcastInDim S4096x200x1 ![0, 1, 2] bcast_S1x1x1_S4096x200x1_0_1_2 (broadcastInDim S1x1x1 ![2] bcast_S1_S1x1x1_2 (V0 (Proc.devRef .tc main_arg11)))))

/-- The behaviours pooled by their scores. -/
def poolR : FVec Ideal S4096x24 .f32 := (Host.reduceAdd (mulf (res_main_v9 V0) (broadcastInDim S4096x200x24 ![0, 1, 2] bcast_S4096x200x1_S4096x200x24_0_1_2 (scoreR V0))) (constant S_ .f32 0x00000000#32) reducesTo_S4096x200x24_S4096x24_d1 h_S_)

/-- The rows the dense layers read. -/
def rowR : FVec Ideal S4096x80 .f32 :=
  concatenate S4096x80 1 [⟨S4096x16, userR V0⟩, ⟨S4096x24, poolR V0⟩, ⟨S4096x24, res_main_v14 V0⟩, ⟨S4096x16, ctxR V0⟩] concatenates_S4096x16_S4096x24_S4096x24_S4096x16_S4096x80_d1

variable (hX : (raw V0).Good)

include hX

theorem scoreR_eq (b : Fin 4096) (t : Fin 200) : scoreR V0 (ix3 b t 0) = (((raw V0).args.score b t : ℝ) : EReal) :=
  (score_at (res_main_v41 V0) (res_main_v23 V0) _ _ _ b t).trans
    (dense_coe (fun j => mix_coe ((raw V0).args.actVar_nonneg j) (v41_eq V0 hX b t j) (v23_eq V0 hX b t j) (hX.au j))
      (fun j => hX.Wu j) hX.cu)

theorem poolR_eq (b : Fin 4096) (d : Fin 24) : poolR V0 (ix2 b d) = (((raw V0).args.pooled b d : ℝ) : EReal) := by
  refine (pool_at (res_main_v9 V0) (scoreR V0) b d).trans ?_
  simp only [v9_eq V0 hX, scoreR_eq V0 hX, ← EReal.coe_mul]
  rw [coe_sum]; rfl

theorem rowR_eq (b : Fin 4096) (k : Fin 80) : rowR V0 (ix2 b k) = (((raw V0).args.row b k : ℝ) : EReal) := by
  refine (row_at (userR V0) (ctxR V0) (poolR V0) (res_main_v14 V0) b k).trans ?_
  unfold Args.row
  by_cases h : k.val < 16
  · rw [dif_pos h, dif_pos h, userR_eq V0 hX]
  · rw [dif_neg h, dif_neg h]
    by_cases h1 : k.val - 16 < 24
    · rw [dif_pos h1, dif_pos h1, poolR_eq V0 hX]
    · rw [dif_neg h1, dif_neg h1]
      by_cases h2 : k.val - 16 - 24 < 24
      · rw [dif_pos h2, dif_pos h2, v14_eq V0 hX]
      · rw [dif_neg h2, dif_neg h2, ctxR_eq V0 hX]

/-- The first layer's entries. -/
theorem v66_eq (b : Fin 4096) (j : Fin 200) : res_main_v66 V0 (ix2 b j) = (((raw V0).args.h1 b j : ℝ) : EReal) :=
  (dense1_at (rowR V0) _ _ b j).trans (dense_coe (fun k => rowR_eq V0 hX b k) (fun k => hX.W1 k j) (hX.b1 j))

theorem call5_v5_eq (b : Fin 4096) (j : Fin 200) :
    res_main_call5_v5 V0 (ix2 b j) = (((raw V0).args.h1 b j - Args.mean fun b => (raw V0).args.h1 b j : ℝ) : EReal) := by
  refine (center2_at (n := 198) (res_main_v66 V0) bcast_S1x200_S4096x200_0_1 bcast_S200_S1x200_1 bcast_S_S1x200 reducesTo_S4096x200_S200_d0 b j).trans ?_
  simp only [v66_eq V0 hX]
  rw [mean_eq fun b => (raw V0).args.h1 b j, ← EReal.coe_sub]

theorem v84_eq (b : Fin 4096) (j : Fin 200) :
    res_main_v84 V0 (ix2 b j) = Ideal.div 1 (1 + Ideal.exp (-(Ideal.div
      ((((raw V0).args.h1 b j : ℝ) : EReal) - ((Args.mean (fun b => (raw V0).args.h1 b j) : ℝ) : EReal))
      (Ideal.sqrt (((Args.var (fun b => (raw V0).args.h1 b j) : ℝ) : EReal) + Ideal.ofBits .f32 0x322BCC77#32))))) := by
  refine (gate2_at (n := 198) (res_main_v66 V0) bcast_S1x200_S4096x200_0_1 bcast_S200_S1x200_1 bcast_S_S1x200 bcast_S_S4096x200 reducesTo_S4096x200_S200_d0 b j
    (res_main_call5_v5 V0) (res_main_call5_v8 V0) rfl).trans ?_
  simp only [v66_eq V0 hX, call5_v5_eq V0 hX]
  rw [mean_eq fun b => (raw V0).args.h1 b j, var_eq (fun b => (raw V0).args.h1 b j) _ rfl]

/-- The second layer's entries. -/
theorem v96_eq (b : Fin 4096) (j : Fin 80) : res_main_v96 V0 (ix2 b j) = (((raw V0).args.h2 b j : ℝ) : EReal) :=
  (dense2_at _ _ _ b j).trans (dense_coe
    (fun k => (mix1_at (res_main_v84 V0) (res_main_v66 V0) _ b k).trans
      (mix_coe (Args.var_nonneg _) (v84_eq V0 hX b k) (v66_eq V0 hX b k) (hX.a1 k)))
    (fun k => hX.W2 k j) (hX.b2 j))

theorem call6_v5_eq (b : Fin 4096) (j : Fin 80) :
    res_main_call6_v5 V0 (ix2 b j) = (((raw V0).args.h2 b j - Args.mean fun b => (raw V0).args.h2 b j : ℝ) : EReal) := by
  refine (center2_at (n := 78) (res_main_v96 V0) bcast_S1x80_S4096x80_0_1 bcast_S80_S1x80_1 bcast_S_S1x80 reducesTo_S4096x80_S80_d0 b j).trans ?_
  simp only [v96_eq V0 hX]
  rw [mean_eq fun b => (raw V0).args.h2 b j, ← EReal.coe_sub]

theorem v114_eq (b : Fin 4096) (j : Fin 80) :
    res_main_v114 V0 (ix2 b j) = Ideal.div 1 (1 + Ideal.exp (-(Ideal.div
      ((((raw V0).args.h2 b j : ℝ) : EReal) - ((Args.mean (fun b => (raw V0).args.h2 b j) : ℝ) : EReal))
      (Ideal.sqrt (((Args.var (fun b => (raw V0).args.h2 b j) : ℝ) : EReal) + Ideal.ofBits .f32 0x322BCC77#32))))) := by
  refine (gate2_at (n := 78) (res_main_v96 V0) bcast_S1x80_S4096x80_0_1 bcast_S80_S1x80_1 bcast_S_S1x80 bcast_S_S4096x80 reducesTo_S4096x80_S80_d0 b j
    (res_main_call6_v5 V0) (res_main_call6_v8 V0) rfl).trans ?_
  simp only [v96_eq V0 hX, call6_v5_eq V0 hX]
  rw [mean_eq fun b => (raw V0).args.h2 b j, var_eq (fun b => (raw V0).args.h2 b j) _ rfl]

/-- The reference's result. -/
theorem result_eq : addf (Host.dotGeneral (φ₂ := .f32) dot_S4096x80_S80x2_S4096x2_1_0_0_1_n_n none (addf (mulf (res_main_v114 V0) (res_main_v96 V0)) (mulf (mulf (subf (broadcastInDim S4096x80 ![] bcast_S_S4096x80 (constant S_ .f32 0x3F800000#32)) (res_main_v114 V0)) (broadcastInDim S4096x80 ![0, 1] bcast_S1x80_S4096x80_0_1 (broadcastInDim S1x80 ![1] bcast_S80_S1x80_1 (V0 (Proc.devRef .tc main_arg17))))) (res_main_v96 V0))) (V0 (Proc.devRef .tc main_arg18) : FVec Ideal S80x2 .f32)) (broadcastInDim S4096x2 ![0, 1] bcast_S1x2_S4096x2_0_1 (broadcastInDim S1x2 ![1] bcast_S2_S1x2_1 (V0 (Proc.devRef .tc main_arg19))))
      = fun j => (raw V0).args.out (j 0) (j 1) := by
  funext i
  obtain ⟨b, o, rfl⟩ : ∃ (b : Fin 4096) (o : Fin 2), i = ix2 b o := ⟨i 0, i 1, eq_ix2 i⟩
  refine (dense3_at _ _ _ b o).trans ?_
  refine congrArg₂ (· + ·) (Finset.sum_congr rfl fun k _ => congrArg₂ (· * ·) ?_ rfl) rfl
  exact (mix2_at (res_main_v114 V0) (res_main_v96 V0) _ b k).trans
    (mix_coe (Args.var_nonneg _) (v114_eq V0 hX b k) (v96_eq V0 hX b k) (hX.a2 k))

end Cert.ReferenceIdeal.Hand
-- ==== Proof.K.Pre.lean ====
module

public import proofs.«01_k».proof.Defs
public import proofs.«01_k».proof.Proof.Gen.Pre_in_range
public import proofs.«01_k».proof.Proof.K.HostA
public import Idealize.ShloMosaic.Lib.ReduceAll
public import Idealize.ShloMosaic.Lib.Pointwise

@[expose] public section

set_option maxRecDepth 16384

noncomputable section

/-! What the precondition says of the arguments. -/

namespace Cert.Pre_in_range.Hand

open Cert.Pre_in_range Idealize.ShloMosaic Cert.Din

instance : Subsingleton S_.Idx := ⟨fun a b => funext fun d => d.elim0⟩

/-- Below infinity in size is finite. -/
theorem fin_of_lt (x : EReal) (h : FloatOps.cmpf (F := Ideal) (φ := .f32) .olt (FloatOps.absf (F := Ideal) (φ := .f32) x) (FloatOps.ofBits .f32 0x7F800000#32) = 1#1) : Raw.Fin' x := by
  have htop : Ideal.ofBits .f32 0x7F800000#32 = ⊤ := by simp [Ideal.ofBits, Ideal.ieee]
  have h : Ideal.cmp .olt (max x (-x)) (Ideal.ofBits .f32 0x7F800000#32) = 1#1 := h
  rw [htop] at h
  have h : max x (-x) < ⊤ := by
    by_contra hc
    rw [Ideal.cmp, decide_eq_false hc] at h
    exact absurd h (by decide)
  refine (EReal.coe_toReal (fun e => ?_) (fun e => ?_)).symm
  · rw [e] at h; simp at h
  · rw [e] at h; simp at h

variable {s : Shape} {axes : List (Fin s.rank)}

/-- A float array in range is finite everywhere. -/
theorem fin_of (x : FVec Ideal s .f32) (hb : S_.BroadcastsInDim s ![]) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : Raw.Fin' (x i) :=
  fin_of_lt _ (Host.reduce_andi_all _ _ _ _ _ e i)

/-- An index array in range is in range everywhere. -/
theorem word_of (n : ℕ) (hn : n < 2 ^ 31) (x : IVec s 32) (hb : S_.BroadcastsInDim s ![]) (hr : s.ReducesTo axes S_) (hu : 0 < S_.numel) (j : S_.Idx)
    (e : Host.reduce IntOp.andi (andi (cmpi .sge x (broadcastInDim s ![] hb (constantI S_ 32 0#32))) (cmpi .slt x (broadcastInDim s ![] hb (constantI S_ 32 (BitVec.ofNat 32 n))))) (constantI S_ 1 1#1) hr hu j = 1#1)
    (i : s.Idx) : (x i).toNat < n := by
  obtain ⟨h1, h2⟩ := IntOp.andi_eq_one.1 (Host.reduce_andi_all _ _ _ _ _ e i)
  have h1 : (0#32).toInt ≤ (x i).toInt := IntOp.cmpi_sge.1 h1
  have h2 : (x i).toInt < (BitVec.ofNat 32 n).toInt := IntOp.cmpi_slt.1 h2
  rw [toInt_small n hn] at h2
  rw [BitVec.toInt_zero] at h1
  rw [BitVec.toInt_eq_toNat_cond] at h1 h2
  split at h1 <;> omega

end Cert.Pre_in_range.Hand

namespace Cert.KernelIdeal.Hand

open Cert.KernelIdeal Cert.KernelIdeal.Gen Idealize.ShloMosaic Idealize.ShloMosaic.TcCoe Cert.Din Cert.Pre_in_range.Hand

/-- The precondition makes the arguments good. -/
theorem good (m : (ℓ : Loc nD τ sig) → Buf (Elt Ideal) ℓ) (c : Dev nD) (h : Pre_KernelIdeal_in_range m) : (rawK m c).Good := by
  have h := congrFun (h c) (fun d => d.elim0)
  unfold Pre_in_range.fn Pre_in_range.fn_part1 Pre_in_range.fn_part2 Pre_in_range.fn_part3 Pre_in_range.fn_part4 Pre_in_range.fn_part5 at h
  obtain ⟨h, e17⟩ := IntOp.andi_eq_one.1 h
  obtain ⟨h, e16⟩ := IntOp.andi_eq_one.1 h
  obtain ⟨h, e15⟩ := IntOp.andi_eq_one.1 h
  obtain ⟨h, e14⟩ := IntOp.andi_eq_one.1 h
  obtain ⟨h, e13⟩ := IntOp.andi_eq_one.1 h
  obtain ⟨h, e12⟩ := IntOp.andi_eq_one.1 h
  obtain ⟨h, e11⟩ := IntOp.andi_eq_one.1 h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact {
    up := fun b k => word_of 2 (by norm_num) _ _ _ _ _ e0 (ix2 b k)
    beh := fun b t k => word_of 100 (by norm_num) _ _ _ _ _ e1 (ix3 b t k)
    ad := fun b k => word_of 100 (by norm_num) _ _ _ _ _ e2 (ix3 b 0 k)
    cx := fun b k => word_of 10 (by norm_num) _ _ _ _ _ e3 (ix2 b k)
    upT := fun r k => fin_of _ _ _ _ _ e4 (ix2 r k)
    adT := fun r k => fin_of _ _ _ _ _ e5 (ix2 r k)
    cxT := fun r k => fin_of _ _ _ _ _ e6 (ix2 r k)
    W := fun i j => fin_of _ _ _ _ _ e7 (ix2 i j)
    bu := fun j => fin_of _ _ _ _ _ e8 (ix1 j)
    au := fun j => fin_of _ _ _ _ _ e9 (ix1 j)
    Wu := fun j => fin_of _ _ _ _ _ e10 (ix2 j 0)
    cu := fin_of _ _ _ _ _ e11 (ix1 0)
    W1 := fun i j => fin_of _ _ _ _ _ e12 (ix2 i j)
    b1 := fun j => fin_of _ _ _ _ _ e13 (ix1 j)
    a1 := fun j => fin_of _ _ _ _ _ e14 (ix1 j)
    W2 := fun i j => fin_of _ _ _ _ _ e15 (ix2 i j)
    b2 := fun j => fin_of _ _ _ _ _ e16 (ix1 j)
    a2 := fun j => fin_of _ _ _ _ _ e17 (ix1 j) }

end Cert.KernelIdeal.Hand
-- ==== Proof.K.Algebraic.lean ====
module

public import proofs.«01_k».proof.Defs
public import proofs.«01_k».proof.Proof.K.KHolds
public import proofs.«01_k».proof.Proof.K.KernelRun
public import proofs.«01_k».proof.Proof.K.RefRest
public import proofs.«01_k».proof.Proof.K.Pre

@[expose] public section

set_option maxRecDepth 16384

noncomputable section

/-! The kernel and the reference end with the same result. -/

namespace Cert.Din

open Idealize.ShloMosaic

/-- The arguments, from the twenty arrays. -/
def ofArrays (x0 : IVec ⟨2, ![4096, 2]⟩ 32) (x1 : IVec ⟨3, ![4096, 200, 3]⟩ 32) (x2 : IVec ⟨3, ![4096, 1, 3]⟩ 32) (x3 : IVec ⟨2, ![4096, 2]⟩ 32) (x4 : FVec Ideal ⟨2, ![12, 8]⟩ .f32) (x5 : FVec Ideal ⟨2, ![101100, 8]⟩ .f32) (x6 : FVec Ideal ⟨2, ![20, 8]⟩ .f32) (x7 : FVec Ideal ⟨2, ![96, 36]⟩ .f32) (x8 : FVec Ideal ⟨1, ![36]⟩ .f32) (x9 : FVec Ideal ⟨1, ![36]⟩ .f32) (x10 : FVec Ideal ⟨2, ![36, 1]⟩ .f32) (x11 : FVec Ideal ⟨1, ![1]⟩ .f32) (x12 : FVec Ideal ⟨2, ![80, 200]⟩ .f32) (x13 : FVec Ideal ⟨1, ![200]⟩ .f32) (x14 : FVec Ideal ⟨1, ![200]⟩ .f32) (x15 : FVec Ideal ⟨2, ![200, 80]⟩ .f32) (x16 : FVec Ideal ⟨1, ![80]⟩ .f32) (x17 : FVec Ideal ⟨1, ![80]⟩ .f32) (x18 : FVec Ideal ⟨2, ![80, 2]⟩ .f32) (x19 : FVec Ideal ⟨1, ![2]⟩ .f32) : Raw where
  up b k := x0 (ix2 b k)
  beh b t k := x1 (ix3 b t k)
  ad b k := x2 (ix3 b 0 k)
  cx b k := x3 (ix2 b k)
  upT r k := x4 (ix2 r k)
  adT r k := x5 (ix2 r k)
  cxT r k := x6 (ix2 r k)
  W i j := x7 (ix2 i j)
  bu j := x8 (ix1 j)
  au j := x9 (ix1 j)
  Wu j := x10 (ix2 j 0)
  cu := x11 (ix1 0)
  W1 i j := x12 (ix2 i j)
  b1 j := x13 (ix1 j)
  a1 j := x14 (ix1 j)
  W2 i j := x15 (ix2 i j)
  b2 j := x16 (ix1 j)
  a2 j := x17 (ix1 j)
  W3 i j := x18 (ix2 i j)
  b3 j := x19 (ix1 j)

theorem ofArrays_congr {x0 y0 : IVec ⟨2, ![4096, 2]⟩ 32} {x1 y1 : IVec ⟨3, ![4096, 200, 3]⟩ 32} {x2 y2 : IVec ⟨3, ![4096, 1, 3]⟩ 32} {x3 y3 : IVec ⟨2, ![4096, 2]⟩ 32} {x4 y4 : FVec Ideal ⟨2, ![12, 8]⟩ .f32} {x5 y5 : FVec Ideal ⟨2, ![101100, 8]⟩ .f32} {x6 y6 : FVec Ideal ⟨2, ![20, 8]⟩ .f32} {x7 y7 : FVec Ideal ⟨2, ![96, 36]⟩ .f32} {x8 y8 : FVec Ideal ⟨1, ![36]⟩ .f32} {x9 y9 : FVec Ideal ⟨1, ![36]⟩ .f32} {x10 y10 : FVec Ideal ⟨2, ![36, 1]⟩ .f32} {x11 y11 : FVec Ideal ⟨1, ![1]⟩ .f32} {x12 y12 : FVec Ideal ⟨2, ![80, 200]⟩ .f32} {x13 y13 : FVec Ideal ⟨1, ![200]⟩ .f32} {x14 y14 : FVec Ideal ⟨1, ![200]⟩ .f32} {x15 y15 : FVec Ideal ⟨2, ![200, 80]⟩ .f32} {x16 y16 : FVec Ideal ⟨1, ![80]⟩ .f32} {x17 y17 : FVec Ideal ⟨1, ![80]⟩ .f32} {x18 y18 : FVec Ideal ⟨2, ![80, 2]⟩ .f32} {x19 y19 : FVec Ideal ⟨1, ![2]⟩ .f32} (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) (e19 : x19 = y19) :
    ofArrays x0 x1 x2 x3 x4 x5 x6 x7 x8 x9 x10 x11 x12 x13 x14 x15 x16 x17 x18 x19 = ofArrays y0 y1 y2 y3 y4 y5 y6 y7 y8 y9 y10 y11 y12 y13 y14 y15 y16 y17 y18 y19 := by
  subst_vars; rfl

end Cert.Din

namespace Cert.Proof

open Idealize.ShloMosaic Idealize.ShloMosaic.TcCoe Idealize.SL.Sem Cert.Din

/-- The kernel ends with the network's result and its arguments unchanged. -/
theorem kernel_run (m : (ℓ : Loc Cert.KernelIdeal.nD Cert.KernelIdeal.τ Cert.KernelIdeal.sig) → Buf (Elt Ideal) ℓ)
    (g : Dev Cert.KernelIdeal.nD → PrngReg) (h : Pre_KernelIdeal_in_range m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD, r.2.mem ((c.tc : Thread Cert.KernelIdeal.nD Cert.KernelIdeal.τ).loc Cert.KernelIdeal.main_v109)
        = fun j => (Cert.KernelIdeal.Hand.rawK m c).args.out (j 0) (j 1)) :=
  (θ_run (Cert.KernelIdeal.defs (F := Ideal)) _ _).mono
    (fun r hr c => ((hr.1 c).2 Cert.KernelIdeal.main_v109 (Pipeline.mem_restRefs_of Cert.KernelIdeal.main_v109 (by decide) (by decide))).trans
      (Cert.KernelIdeal.Hand.result_eq m c (Cert.KernelIdeal.Hand.good m c h) (Cert.KernelIdeal.Hand.holds m c)))
    (Cert.KernelIdeal.Hand.run_main m g)

/-- From the same arguments, with the indices in range and the numbers finite, the two results are equal. -/
theorem algebraic : Cert.algebraic_KernelIdeal_ReferenceIdeal_pre_in_range := by
  intro m g m' g' h ha
  refine ⟨fun c => fun j => (Cert.KernelIdeal.Hand.rawK m c).args.out (j 0) (j 1), ?_, ?_⟩
  · exact (θ_run (Cert.KernelIdeal.defs (F := Ideal)) _ _).mono (fun r hr c => ⟨hr.1 c, hr.2.1 c⟩)
      (θ_run_and (kernel_run m g h) (Cert.KernelIdeal.Hand.frame m g))
  · refine (θ_run (Cert.ReferenceIdeal.defs (F := Ideal)) _ _).mono (fun r hr c => ⟨(hr c).1.trans ?_, (hr c).2⟩) (Cert.ReferenceIdeal.Value.run m' g')
    obtain ⟨e0, e1, e2, e3, e4, e5, e6, e7, e8, e9, e10, e11, e12, e13, e14, e15, e16, e17, e18, e19⟩ := ha c
    have e : Cert.ReferenceIdeal.Hand.raw (StableHlo.launchContents m' c) = Cert.KernelIdeal.Hand.rawK m c := ofArrays_congr e0 e1 e2 e3 e4 e5 e6 e7 e8 e9 e10 e11 e12 e13 e14 e15 e16 e17 e18 e19
    have G : (Cert.ReferenceIdeal.Hand.raw (StableHlo.launchContents m' c)).Good := by rw [e]; exact Cert.KernelIdeal.Hand.good m c h
    refine (Cert.ReferenceIdeal.Hand.result_eq (StableHlo.launchContents m' c) G).trans ?_
    exact congrArg (fun (R : Raw) => fun j : (⟨2, ![4096, 2]⟩ : Shape).Idx => R.args.out (j 0) (j 1)) e

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.K.LaunchKernel
public import proofs.«01_k».proof.Proof.K.LaunchKernelIdeal
public import proofs.«01_k».proof.Proof.K.Algebraic
public import Idealize.ShloMosaic.Adequacy
public import Idealize.ShloMosaic.Init

@[expose] public section

noncomputable section

namespace Cert.Proof

open Idealize.ShloMosaic Idealize.SL.Sem Cert.Kernel

/-- The frames of the three programs, the empty ledger, and the equality of the results. -/
theorem claim : Cert.Claim := ⟨Cert.Kernel.Gen.facts, Cert.KernelIdeal.Gen.facts, Cert.ReferenceIdeal.Gen.facts, Cert.Pre_in_range.Gen.facts,
  fun m ρ _ => Cert.Kernel.Hand.frame m ρ, fun m ρ _ => Cert.KernelIdeal.Hand.frame m ρ, fun m ρ _ => Cert.KernelIdeal.Hand.frame m ρ,
  fun m ρ _ => (θ_run (Cert.ReferenceIdeal.defs (F := Ideal)) _ _).mono
    (fun r h => ⟨fun c => (h c).2, Idealize.ShloMosaic.sem_eq_zero_of_no_sems (by decide) r.2⟩)
    (Cert.ReferenceIdeal.Value.run m ρ),
  fun m ρ _ => (θ_run (Cert.ReferenceIdeal.defs (F := Ideal)) _ _).mono
    (fun r h => ⟨fun c => (h c).2, Idealize.ShloMosaic.sem_eq_zero_of_no_sems (by decide) r.2⟩)
    (Cert.ReferenceIdeal.Value.run m ρ), trivial, algebraic⟩

end Cert.Proof

end
